-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![2048, 512]⟩ ⟨2, ![4096, 512]⟩ (Layout.meshBlock [2, 2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x512 : Shape := ⟨2, ![2048, 512]⟩
abbrev S4096x512 : Shape := ⟨2, ![4096, 512]⟩
abbrev S8 : Shape := ⟨1, ![8]⟩
abbrev S2 : Shape := ⟨1, ![2]⟩
abbrev S_ : Shape := ⟨0, ![]⟩
abbrev S128x512 : Shape := ⟨2, ![128, 512]⟩
abbrev S1 : Shape := ⟨1, ![1]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_18 : BitVec 32 := 2#32
  let v30 : BitVec 32 := Scalar.muli v9 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v34 : BitVec 32 := Scalar.muli v10 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_30 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v46 : BitVec 32 := Scalar.muli v13 c512_i32
  let v47 : BitVec 32 := Scalar.addi v46 c0_i32_30
  let v48 : Index := Scalar.indexCast v47
  let c0 : Index := 0#32
  ![v48.toNat, 0]
def k0_off2 (d0 : Dev nD) (c0_i32_30 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v24 : BitVec 32 := Scalar.muli v5 c2048_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v46 : BitVec 32 := Scalar.muli v13 c512_i32
  let v47 : BitVec 32 := Scalar.addi v46 c0_i32_30
  let v51 : BitVec 32 := Scalar.addi v24 v47
  let v52 : Index := Scalar.indexCast v51
  let c0_31 : Index := 0#32
  ![v52.toNat, 0]
def k0_off3 (d0 : Dev nD) (c0_i32_33 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v24 : BitVec 32 := Scalar.muli v5 c2048_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_32 : BitVec 32 := 512#32
  let v54 : BitVec 32 := Scalar.muli v13 c512_i32_32
  let v55 : BitVec 32 := Scalar.addi v24 v54
  let v56 : BitVec 32 := Scalar.addi v55 c0_i32_33
  let c0_i32_40 : BitVec 32 := 0#32
  ![v56.toNat, 0]
def k0_dev4 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v57 : BitVec 32 := Scalar.muli v2 c4_i32_36
  let v58 : BitVec 32 := Scalar.addi c0_i32_37 v57
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_38 : BitVec 32 := 2#32
  let v59 : BitVec 32 := Scalar.muli v9 c2_i32_38
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v61 : BitVec 32 := Scalar.muli v8 c1_i32_39
  let v62 : BitVec 32 := Scalar.addi v60 v61
  v62.toNat
def k0_dev5 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v80 : BitVec 32 := Scalar.muli v2 c4_i32_49
  let v81 : BitVec 32 := Scalar.addi c0_i32_50 v80
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v82 : BitVec 32 := Scalar.muli v9 c2_i32_51
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v84 : BitVec 32 := Scalar.muli v8 c1_i32_52
  let v85 : BitVec 32 := Scalar.addi v83 v84
  v85.toNat
def k0_dev6 (d0 : Dev nD) : Nat :=
  let c0_i32_63 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_62 : BitVec 32 := 4#32
  let v103 : BitVec 32 := Scalar.muli v2 c4_i32_62
  let v104 : BitVec 32 := Scalar.addi c0_i32_63 v103
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_64 : BitVec 32 := 2#32
  let v105 : BitVec 32 := Scalar.muli v9 c2_i32_64
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v107 : BitVec 32 := Scalar.muli v8 c1_i32_65
  let v108 : BitVec 32 := Scalar.addi v106 v107
  v108.toNat
def k0_dev7 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v126 : BitVec 32 := Scalar.muli v2 c4_i32_75
  let v127 : BitVec 32 := Scalar.addi c0_i32_76 v126
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_77 : BitVec 32 := 2#32
  let v128 : BitVec 32 := Scalar.muli v9 c2_i32_77
  let v129 : BitVec 32 := Scalar.addi v127 v128
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v130 : BitVec 32 := Scalar.muli v8 c1_i32_78
  let v131 : BitVec 32 := Scalar.addi v129 v130
  v131.toNat
def k0_off4 (d0 : Dev nD) (c0_i32_82 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let v17 : BitVec 32 := Scalar.addi v15 v16
  let c512_i32_81 : BitVec 32 := 512#32
  let v138 : BitVec 32 := Scalar.muli v17 c512_i32_81
  let v139 : BitVec 32 := Scalar.addi v138 c0_i32_82
  let v140 : Index := Scalar.indexCast v139
  let c0_83 : Index := 0#32
  ![v140.toNat, 0]
def k0_off5 (d0 : Dev nD) (c0_i32_82 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v24 : BitVec 32 := Scalar.muli v5 c2048_i32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let v17 : BitVec 32 := Scalar.addi v15 v16
  let c512_i32_81 : BitVec 32 := 512#32
  let v138 : BitVec 32 := Scalar.muli v17 c512_i32_81
  let v139 : BitVec 32 := Scalar.addi v138 c0_i32_82
  let v143 : BitVec 32 := Scalar.addi v24 v139
  let v144 : Index := Scalar.indexCast v143
  let c0_84 : Index := 0#32
  ![v144.toNat, 0]
def k0_off6 (d0 : Dev nD) (c0_i32_86 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v24 : BitVec 32 := Scalar.muli v5 c2048_i32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let v17 : BitVec 32 := Scalar.addi v15 v16
  let c512_i32_85 : BitVec 32 := 512#32
  let v146 : BitVec 32 := Scalar.muli v17 c512_i32_85
  let v147 : BitVec 32 := Scalar.addi v24 v146
  let v148 : BitVec 32 := Scalar.addi v147 c0_i32_86
  let c0_i32_93 : BitVec 32 := 0#32
  ![v148.toNat, 0]
def k0_dev8 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v149 : BitVec 32 := Scalar.muli v2 c4_i32_89
  let v150 : BitVec 32 := Scalar.addi c0_i32_90 v149
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_91 : BitVec 32 := 2#32
  let v151 : BitVec 32 := Scalar.muli v9 c2_i32_91
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v153 : BitVec 32 := Scalar.muli v8 c1_i32_92
  let v154 : BitVec 32 := Scalar.addi v152 v153
  v154.toNat
def k0_dev9 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v172 : BitVec 32 := Scalar.muli v2 c4_i32_102
  let v173 : BitVec 32 := Scalar.addi c0_i32_103 v172
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_104 : BitVec 32 := 2#32
  let v174 : BitVec 32 := Scalar.muli v9 c2_i32_104
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v176 : BitVec 32 := Scalar.muli v8 c1_i32_105
  let v177 : BitVec 32 := Scalar.addi v175 v176
  v177.toNat
def k0_dev10 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v195 : BitVec 32 := Scalar.muli v2 c4_i32_115
  let v196 : BitVec 32 := Scalar.addi c0_i32_116 v195
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_117 : BitVec 32 := 2#32
  let v197 : BitVec 32 := Scalar.muli v9 c2_i32_117
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v199 : BitVec 32 := Scalar.muli v8 c1_i32_118
  let v200 : BitVec 32 := Scalar.addi v198 v199
  v200.toNat
def k0_dev11 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v218 : BitVec 32 := Scalar.muli v2 c4_i32_128
  let v219 : BitVec 32 := Scalar.addi c0_i32_129 v218
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_130 : BitVec 32 := 2#32
  let v220 : BitVec 32 := Scalar.muli v9 c2_i32_130
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v222 : BitVec 32 := Scalar.muli v8 c1_i32_131
  let v223 : BitVec 32 := Scalar.addi v221 v222
  v223.toNat
def k0_off7 (d0 : Dev nD) (c0_i32_135 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2048_i32_15 : BitVec 32 := 2048#32
  let v26 : BitVec 32 := Scalar.muli v25 c2048_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_134 : BitVec 32 := 512#32
  let v230 : BitVec 32 := Scalar.muli v13 c512_i32_134
  let v231 : BitVec 32 := Scalar.addi v26 v230
  let v232 : BitVec 32 := Scalar.addi v231 c0_i32_135
  let c0_i32_142 : BitVec 32 := 0#32
  ![v232.toNat, 0]
def k0_off8 (d0 : Dev nD) (c0_i32_155 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2048_i32_15 : BitVec 32 := 2048#32
  let v26 : BitVec 32 := Scalar.muli v25 c2048_i32_15
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_154 : BitVec 32 := 512#32
  let v256 : BitVec 32 := Scalar.muli v13 c512_i32_154
  let v257 : BitVec 32 := Scalar.addi v26 v256
  let v258 : BitVec 32 := Scalar.addi v257 c0_i32_155
  let c0_i32_162 : BitVec 32 := 0#32
  ![v258.toNat, 0]
def k0_dev12 (d0 : Dev nD) : Nat :=
  let c0_i32_159 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_158 : BitVec 32 := 4#32
  let v259 : BitVec 32 := Scalar.muli v10 c4_i32_158
  let v260 : BitVec 32 := Scalar.addi c0_i32_159 v259
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v261 : BitVec 32 := Scalar.muli v5 c2_i32_160
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v263 : BitVec 32 := Scalar.muli v8 c1_i32_161
  let v264 : BitVec 32 := Scalar.addi v262 v263
  v264.toNat
def k0_dev13 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v271 : BitVec 32 := Scalar.muli v2 c4_i32_166
  let v272 : BitVec 32 := Scalar.addi c0_i32_167 v271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v273 : BitVec 32 := Scalar.muli v5 c2_i32_168
  let v274 : BitVec 32 := Scalar.addi v272 v273
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_169 : BitVec 32 := 1#32
  let v275 : BitVec 32 := Scalar.muli v11 c1_i32_169
  let v276 : BitVec 32 := Scalar.addi v274 v275
  v276.toNat
def k0_dev14 (d0 : Dev nD) : Nat :=
  let c0_i32_197 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_196 : BitVec 32 := 4#32
  let v312 : BitVec 32 := Scalar.muli v10 c4_i32_196
  let v313 : BitVec 32 := Scalar.addi c0_i32_197 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v314 : BitVec 32 := Scalar.muli v5 c2_i32_198
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_199 : BitVec 32 := 1#32
  let v316 : BitVec 32 := Scalar.muli v8 c1_i32_199
  let v317 : BitVec 32 := Scalar.addi v315 v316
  v317.toNat
def k0_dev15 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v324 : BitVec 32 := Scalar.muli v2 c4_i32_204
  let v325 : BitVec 32 := Scalar.addi c0_i32_205 v324
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v326 : BitVec 32 := Scalar.muli v5 c2_i32_206
  let v327 : BitVec 32 := Scalar.addi v325 v326
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_207 : BitVec 32 := 1#32
  let v328 : BitVec 32 := Scalar.muli v11 c1_i32_207
  let v329 : BitVec 32 := Scalar.addi v327 v328
  v329.toNat
def k0_off9 (d0 : Dev nD) (c0_i32_211 : BitVec 32) : Fin 2 → Nat :=
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v19 : BitVec 32 := Scalar.muli c2_i32_11 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.addi v19 v8
  let c512_i32_210 : BitVec 32 := 512#32
  let v336 : BitVec 32 := Scalar.muli v20 c512_i32_210
  let v337 : BitVec 32 := Scalar.addi v336 c0_i32_211
  let v338 : Index := Scalar.indexCast v337
  let c0_212 : Index := 0#32
  ![v338.toNat, 0]
def k0_off10 (d0 : Dev nD) (c0_i32_211 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v24 : BitVec 32 := Scalar.muli v5 c2048_i32
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v19 : BitVec 32 := Scalar.muli c2_i32_11 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.addi v19 v8
  let c512_i32_210 : BitVec 32 := 512#32
  let v336 : BitVec 32 := Scalar.muli v20 c512_i32_210
  let v337 : BitVec 32 := Scalar.addi v336 c0_i32_211
  let v341 : BitVec 32 := Scalar.addi v24 v337
  let v342 : Index := Scalar.indexCast v341
  let c0_213 : Index := 0#32
  ![v342.toNat, 0]
def k0_off11 (d0 : Dev nD) (c0_i32_227 : BitVec 32) : Fin 2 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_226 : BitVec 32 := 512#32
  let v368 : BitVec 32 := Scalar.muli v23 c512_i32_226
  let v369 : BitVec 32 := Scalar.addi v368 c0_i32_227
  let v370 : Index := Scalar.indexCast v369
  let c0_228 : Index := 0#32
  ![v370.toNat, 0]
def k0_off12 (d0 : Dev nD) (c0_i32_227 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v24 : BitVec 32 := Scalar.muli v5 c2048_i32
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_226 : BitVec 32 := 512#32
  let v368 : BitVec 32 := Scalar.muli v23 c512_i32_226
  let v369 : BitVec 32 := Scalar.addi v368 c0_i32_227
  let v373 : BitVec 32 := Scalar.addi v24 v369
  let v374 : Index := Scalar.indexCast v373
  let c0_229 : Index := 0#32
  ![v374.toNat, 0]
def k0_off13 (d0 : Dev nD) (c0_i32_243 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2048_i32_15 : BitVec 32 := 2048#32
  let v26 : BitVec 32 := Scalar.muli v25 c2048_i32_15
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_9 v8
  let v17 : BitVec 32 := Scalar.addi v15 v16
  let c512_i32_242 : BitVec 32 := 512#32
  let v400 : BitVec 32 := Scalar.muli v17 c512_i32_242
  let v401 : BitVec 32 := Scalar.addi v26 v400
  let v402 : BitVec 32 := Scalar.addi v401 c0_i32_243
  let c0_i32_250 : BitVec 32 := 0#32
  ![v402.toNat, 0]
def k0_off14 (d0 : Dev nD) (c0_i32_283 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2048_i32_15 : BitVec 32 := 2048#32
  let v26 : BitVec 32 := Scalar.muli v25 c2048_i32_15
  let c2_i32_11 : BitVec 32 := 2#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_10 v2
  let v19 : BitVec 32 := Scalar.muli c2_i32_11 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.addi v19 v8
  let c512_i32_282 : BitVec 32 := 512#32
  let v452 : BitVec 32 := Scalar.muli v20 c512_i32_282
  let v453 : BitVec 32 := Scalar.addi v26 v452
  let v454 : BitVec 32 := Scalar.addi v453 c0_i32_283
  let c0_i32_290 : BitVec 32 := 0#32
  ![v454.toNat, 0]
def k0_off15 (d0 : Dev nD) (c0_i32_293 : BitVec 32) : Fin 2 → Nat :=
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_14 v5
  let c2048_i32_15 : BitVec 32 := 2048#32
  let v26 : BitVec 32 := Scalar.muli v25 c2048_i32_15
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_292 : BitVec 32 := 512#32
  let v465 : BitVec 32 := Scalar.muli v23 c512_i32_292
  let v466 : BitVec 32 := Scalar.addi v26 v465
  let v467 : BitVec 32 := Scalar.addi v466 c0_i32_293
  let c0_i32_300 : BitVec 32 := 0#32
  ![v467.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geometry.lean ====
/-
# The geometry of the all-gather

Where the eight devices sit on the 2×2×2 mesh, who is whose neighbour, which rows of the 4096-row result each
device fills itself, sends and receives, and the closed forms of the program's row offsets and device numbers.
Everything here is about natural numbers and finite sets of indices; no program is run.

A row interval is named by its first row and its length. The result has two halves of 2048 rows; a device at
coordinates `(x, y, z)` owns half `y`. A half has four quarters of 512 rows, which a device numbers relative
to itself: quarter 0 is the one of its own `(x, z)`, quarter 1 the one diagonally opposite, quarters 2 and 3
the ones of its neighbours along `x` and along `z`.
-/
module

public import proofs.«01_k».proof.Proof.Gen.KernelIdeal

@[expose] public section

set_option maxRecDepth 16384

noncomputable section

namespace Cert.Gather

open Cert.KernelIdeal Cert.KernelIdeal.Gen
open Idealize.ShloMosaic

/-! ## Devices -/

/-- Coordinate along `x` of device `4x + 2y + z`. -/
def cx (c : Dev nD) : ℕ := c.val / 4
/-- Coordinate along `y`. -/
def cy (c : Dev nD) : ℕ := c.val / 2 % 2
/-- Coordinate along `z`. -/
def cz (c : Dev nD) : ℕ := c.val % 2

/-- The neighbour across one axis; the axes numbered in the order the kernel greets them: 0 is `y`, 1 is `x`, 2 is `z`. -/
def nb (a : Fin 3) (c : Dev nD) : Dev nD :=
  ⟨(match a with
    | 0 => 4 * cx c + 2 * (1 - cy c) + cz c
    | 1 => 4 * (1 - cx c) + 2 * cy c + cz c
    | 2 => 4 * cx c + 2 * cy c + (1 - cz c)) % 8, Nat.mod_lt _ (by decide)⟩

/-- Going across an axis twice comes back. -/
theorem nb_nb : ∀ (a : Fin 3) (c : Dev nD), nb a (nb a c) = c := by decide +kernel

/-! ## Rows -/

/-- Quarter `j`, relative to device `c`, of a half: its absolute number. -/
def quarter (c : Dev nD) (j : ℕ) : ℕ :=
  match j with
  | 0 => 2 * cx c + cz c
  | 1 => 2 * (1 - cx c) + (1 - cz c)
  | 2 => 2 * (1 - cx c) + cz c
  | _ => 2 * cx c + (1 - cz c)

/-- The sixteen 128-row pieces of its own block in the order a device converts them: first row of piece `p` in the block. -/
def xrow (c : Dev nD) (p : Fin 16) : ℕ := 512 * quarter c (p.val / 4) + 128 * (p.val % 4)
/-- First row of piece `p` in the result. -/
def prow (c : Dev nD) (p : Fin 16) : ℕ := 2048 * cy c + xrow c p

/-- The axis the transfer number `i` crosses. The twelve transfers a device issues are numbered in program order: eight of
    128 rows across `y`, then, twice, one of 256 rows across `x` and one across `z`. -/
def tax (i : Fin 12) : Fin 3 := if i.val < 8 then 0 else if i.val % 2 = 0 then 1 else 2
/-- How many rows transfer `i` moves. -/
def tlen (i : Fin 12) : ℕ := if i.val < 8 then 128 else 256
/-- First row of what device `c` sends by transfer `i`: its own piece `i`, or the half `(i - 8) / 2` of quarter 0 of the
    other half of the result. -/
def trow (c : Dev nD) (i : Fin 12) : ℕ :=
  if i.val < 8 then 2048 * cy c + (512 * quarter c (i.val / 4) + 128 * (i.val % 4))
  else 2048 * (1 - cy c) + 512 * quarter c 0 + 256 * ((i.val - 8) / 2)
/-- The device transfer `i` of device `c` goes to, and also the one from which its counterpart comes. -/
abbrev peer (i : Fin 12) (c : Dev nD) : Dev nD := nb (tax i) c
/-- First row of what lands on device `c` by transfer `i`: what the peer sends, at the same rows. -/
def lrow (c : Dev nD) (i : Fin 12) : ℕ := trow (peer i c) i

/-- Both ends of a transfer name the same rows. -/
theorem lrow_peer (c : Dev nD) (i : Fin 12) : lrow (peer i c) i = trow c i := by
  unfold lrow peer; rw [nb_nb]

/-- Every piece a device converts lies in its block. -/
theorem xrow_le : ∀ (c : Dev nD) (p : Fin 16), xrow c p + 128 ≤ 2048 := by decide +kernel
/-- Every row interval sent lies in the result. -/
theorem trow_le : ∀ (c : Dev nD) (i : Fin 12), trow c i + tlen i ≤ 4096 := by decide +kernel
/-- Half of the result a device owns. -/
theorem cy_lt (c : Dev nD) : cy c < 2 := Nat.mod_lt _ (by decide)
/-- The piece a transfer across `y` sends is the piece of that number. -/
theorem trow_of_lt (c : Dev nD) (i : Fin 12) (p : Fin 16) (h : i.val < 8) (hp : p.val = i.val) : trow c i = prow c p := by
  unfold trow prow xrow; rw [if_pos h, hp]

/-! ## The result cut in twenty-eight pieces -/

/-- First row and length of piece `k` of the result on device `c`: its own sixteen, then the twelve that land there. -/
def krow (c : Dev nD) : Fin 16 ⊕ Fin 12 → ℕ
  | .inl p => prow c p
  | .inr i => lrow c i
/-- Its length. -/
def klen : Fin 16 ⊕ Fin 12 → ℕ
  | .inl _ => 128
  | .inr i => tlen i

/-- The indices of the result whose row is one of the `n` from row `a`. -/
def rows (a n : ℕ) : Finset S4096x512.Idx := Finset.univ.filter fun i => a ≤ (i 0).val ∧ (i 0).val < a + n

/-- Membership in a row interval. -/
theorem mem_rows {a n : ℕ} {i : S4096x512.Idx} : i ∈ rows a n ↔ a ≤ (i 0).val ∧ (i 0).val < a + n := by
  unfold rows; rw [Finset.mem_filter, and_iff_right (Finset.mem_univ _)]

/-- Intervals that follow one another are disjoint. -/
theorem rows_disjoint {a n b k : ℕ} (h : a + n ≤ b ∨ b + k ≤ a) : Disjoint (rows a n) (rows b k) :=
  Finset.disjoint_left.mpr fun i hi hj => by
    rw [mem_rows] at hi hj; omega

/-- Two adjoining intervals make one. -/
theorem rows_union (a n k : ℕ) : rows a n ∪ rows (a + n) k = rows a (n + k) := by
  ext i; rw [Finset.mem_union, mem_rows, mem_rows, mem_rows]; omega

/-- Of two different pieces one ends before the other begins. -/
theorem pieces_apart : ∀ (c : Dev nD) (k k' : Fin 16 ⊕ Fin 12), k ≠ k' → krow c k + klen k ≤ krow c k' ∨ krow c k' + klen k' ≤ krow c k := by
  decide +kernel
/-- Every 128 rows starting at a multiple of 128 lie within one piece. -/
theorem pieces_reach : ∀ (c : Dev nD) (b : Fin 32), ∃ k : Fin 16 ⊕ Fin 12, krow c k ≤ 128 * b.val ∧ 128 * b.val + 128 ≤ krow c k + klen k := by
  decide +kernel

/-- The elements of piece `k`. -/
abbrev kset (c : Dev nD) (k : Fin 16 ⊕ Fin 12) : Finset S4096x512.Idx := rows (krow c k) (klen k)

/-- The pieces are disjoint, -/
theorem kset_disjoint (c : Dev nD) (k k' : Fin 16 ⊕ Fin 12) (h : k ≠ k') : Disjoint (kset c k) (kset c k') :=
  rows_disjoint (pieces_apart c k k' h)
/-- and they cover the result. -/
theorem kset_cover (c : Dev nD) : Finset.univ.biUnion (kset c) = Finset.univ := by
  refine Finset.eq_univ_iff_forall.mpr fun i => Finset.mem_biUnion.mpr ?_
  have hi : (i 0).val < 4096 := (i 0).isLt
  obtain ⟨k, h1, h2⟩ := pieces_reach c ⟨(i 0).val / 128, by omega⟩
  exact ⟨k, Finset.mem_univ _, mem_rows.mpr (by simp only at h1 h2; omega)⟩

/-- What is forwarded first across `x` and `z` (`f = 0`) is what landed by transfers 0 and 1, and what second what landed by
    2 and 3: the two 128-row pieces adjoin and make the 256 rows. -/
theorem fwd_rows : ∀ (c : Dev nD) (f : Fin 2),
    trow c ⟨8 + 2 * f.val, by omega⟩ = lrow c ⟨2 * f.val, by omega⟩ ∧ trow c ⟨9 + 2 * f.val, by omega⟩ = lrow c ⟨2 * f.val, by omega⟩
      ∧ lrow c ⟨2 * f.val + 1, by omega⟩ = lrow c ⟨2 * f.val, by omega⟩ + 128 := by
  decide +kernel

/-! ## Whose rows they are -/

/-- The device whose block the rows of 512-row block `b` of the result come from, as device `c` receives them: itself in
    its own half; in the other half the `y` neighbour, or the `y` neighbour of the `x` or the `z` neighbour. -/
def origin (c : Dev nD) (b : ℕ) : Dev nD :=
  if b / 4 = cy c then c
  else if b % 4 = quarter c 2 then nb 0 (nb 1 c)
  else if b % 4 = quarter c 3 then nb 0 (nb 2 c)
  else nb 0 c

/-- The device the rows come from owns that half of the result. -/
theorem origin_half : ∀ (c : Dev nD) (b : Fin 8), cy (origin c b.val) = b.val / 4 := by decide +kernel
/-- A device's own pieces come from it. -/
theorem origin_own : ∀ (c : Dev nD) (p : Fin 16), origin c (prow c p / 512) = c ∧ prow c p / 512 = (prow c p + 127) / 512 := by decide +kernel
/-- The two ends of a transfer agree on whose rows it moves; and it moves rows of one 512-row block. -/
theorem origin_sent : ∀ (c : Dev nD) (i : Fin 12), origin (peer i c) (trow c i / 512) = origin c (trow c i / 512)
    ∧ trow c i / 512 = (trow c i + tlen i - 1) / 512 := by decide +kernel

/-! ## The program's offsets and device numbers

Each of the program's offset computations, at each of its constants, is the row of a piece or of a transfer; each of
its device numbers is a neighbour. -/

section Offsets

/-- Where the conversions of a device's first quarter read the argument: the rows of pieces 0 to 3. -/
theorem off1_eq : ∀ (c : Dev nD) (r : Fin 4), k0_off1 c (BitVec.ofNat 32 (128 * r.val)) = ![xrow c ⟨r.val, by omega⟩, 0] := by decide +kernel
/-- Where the conversions of a device's second quarter read the argument: the rows of pieces 4 to 7. -/
theorem off4_eq : ∀ (c : Dev nD) (r : Fin 4), k0_off4 c (BitVec.ofNat 32 (128 * r.val)) = ![xrow c ⟨4 + r.val, by omega⟩, 0] := by decide +kernel
/-- Where the conversions of a device's third quarter read the argument: the rows of pieces 8 to 11. -/
theorem off9_eq : ∀ (c : Dev nD) (r : Fin 4), k0_off9 c (BitVec.ofNat 32 (128 * r.val)) = ![xrow c ⟨8 + r.val, by omega⟩, 0] := by decide +kernel
/-- Where the conversions of a device's last quarter read the argument: the rows of pieces 12 to 15. -/
theorem off11_eq : ∀ (c : Dev nD) (r : Fin 4), k0_off11 c (BitVec.ofNat 32 (128 * r.val)) = ![xrow c ⟨12 + r.val, by omega⟩, 0] := by decide +kernel
/-- Where the conversions of a device's first quarter write the result: the rows of pieces 0 to 3. -/
theorem off2_eq : ∀ (c : Dev nD) (r : Fin 4), k0_off2 c (BitVec.ofNat 32 (128 * r.val)) = ![prow c ⟨r.val, by omega⟩, 0] := by decide +kernel
/-- Where the conversions of a device's second quarter write the result: the rows of pieces 4 to 7. -/
theorem off5_eq : ∀ (c : Dev nD) (r : Fin 4), k0_off5 c (BitVec.ofNat 32 (128 * r.val)) = ![prow c ⟨4 + r.val, by omega⟩, 0] := by decide +kernel
/-- Where the conversions of a device's third quarter write the result: the rows of pieces 8 to 11. -/
theorem off10_eq : ∀ (c : Dev nD) (r : Fin 4), k0_off10 c (BitVec.ofNat 32 (128 * r.val)) = ![prow c ⟨8 + r.val, by omega⟩, 0] := by decide +kernel
/-- Where the conversions of a device's last quarter write the result: the rows of pieces 12 to 15. -/
theorem off12_eq : ∀ (c : Dev nD) (r : Fin 4), k0_off12 c (BitVec.ofNat 32 (128 * r.val)) = ![prow c ⟨12 + r.val, by omega⟩, 0] := by decide +kernel
/-- The rows of the first four transfers, those of the first quarter to the neighbour along `y`. -/
theorem off3_eq : ∀ (c : Dev nD) (r : Fin 4), k0_off3 c (BitVec.ofNat 32 (128 * r.val)) = ![trow c ⟨r.val, by omega⟩, 0] := by decide +kernel
/-- The rows of the next four, those of the second quarter to the same neighbour. -/
theorem off6_eq : ∀ (c : Dev nD) (r : Fin 4), k0_off6 c (BitVec.ofNat 32 (128 * r.val)) = ![trow c ⟨4 + r.val, by omega⟩, 0] := by decide +kernel
/-- The rows forwarded along `x`: transfers 8 and 10. -/
theorem off8x_eq : ∀ (c : Dev nD) (f : Fin 2), k0_off8 c (BitVec.ofNat 32 (256 * f.val)) = ![trow c ⟨8 + 2 * f.val, by omega⟩, 0] := by decide +kernel
/-- The rows forwarded along `z`, transfers 9 and 11, are the same. -/
theorem off8z_eq : ∀ (c : Dev nD) (f : Fin 2), k0_off8 c (BitVec.ofNat 32 (256 * f.val)) = ![trow c ⟨9 + 2 * f.val, by omega⟩, 0] := by decide +kernel

/-- The first signal goes to the neighbour across axis 0 of the handshake's order. -/
theorem dev1_eq : ∀ c : Dev nD, (⟨k0_dev1 c, k0_dev1_lt c⟩ : Dev nD) = nb 0 c := by decide +kernel
/-- The second signal goes to the neighbour across axis 1 of the handshake's order. -/
theorem dev2_eq : ∀ c : Dev nD, (⟨k0_dev2 c, k0_dev2_lt c⟩ : Dev nD) = nb 1 c := by decide +kernel
/-- The third signal goes to the neighbour across axis 2 of the handshake's order. -/
theorem dev3_eq : ∀ c : Dev nD, (⟨k0_dev3 c, k0_dev3_lt c⟩ : Dev nD) = nb 2 c := by decide +kernel
/-- Transfer 0 goes to its peer. -/
theorem dev4_eq : ∀ c : Dev nD, (⟨k0_dev4 c, k0_dev4_lt c⟩ : Dev nD) = peer 0 c := by decide +kernel
/-- Transfer 1 goes to its peer. -/
theorem dev5_eq : ∀ c : Dev nD, (⟨k0_dev5 c, k0_dev5_lt c⟩ : Dev nD) = peer 1 c := by decide +kernel
/-- Transfer 2 goes to its peer. -/
theorem dev6_eq : ∀ c : Dev nD, (⟨k0_dev6 c, k0_dev6_lt c⟩ : Dev nD) = peer 2 c := by decide +kernel
/-- Transfer 3 goes to its peer. -/
theorem dev7_eq : ∀ c : Dev nD, (⟨k0_dev7 c, k0_dev7_lt c⟩ : Dev nD) = peer 3 c := by decide +kernel
/-- Transfer 4 goes to its peer. -/
theorem dev8_eq : ∀ c : Dev nD, (⟨k0_dev8 c, k0_dev8_lt c⟩ : Dev nD) = peer 4 c := by decide +kernel
/-- Transfer 5 goes to its peer. -/
theorem dev9_eq : ∀ c : Dev nD, (⟨k0_dev9 c, k0_dev9_lt c⟩ : Dev nD) = peer 5 c := by decide +kernel
/-- Transfer 6 goes to its peer. -/
theorem dev10_eq : ∀ c : Dev nD, (⟨k0_dev10 c, k0_dev10_lt c⟩ : Dev nD) = peer 6 c := by decide +kernel
/-- Transfer 7 goes to its peer. -/
theorem dev11_eq : ∀ c : Dev nD, (⟨k0_dev11 c, k0_dev11_lt c⟩ : Dev nD) = peer 7 c := by decide +kernel
/-- Transfer 8 goes to its peer. -/
theorem dev12_eq : ∀ c : Dev nD, (⟨k0_dev12 c, k0_dev12_lt c⟩ : Dev nD) = peer 8 c := by decide +kernel
/-- Transfer 9 goes to its peer. -/
theorem dev13_eq : ∀ c : Dev nD, (⟨k0_dev13 c, k0_dev13_lt c⟩ : Dev nD) = peer 9 c := by decide +kernel
/-- Transfer 10 goes to its peer. -/
theorem dev14_eq : ∀ c : Dev nD, (⟨k0_dev14 c, k0_dev14_lt c⟩ : Dev nD) = peer 10 c := by decide +kernel
/-- Transfer 11 goes to its peer. -/
theorem dev15_eq : ∀ c : Dev nD, (⟨k0_dev15 c, k0_dev15_lt c⟩ : Dev nD) = peer 11 c := by decide +kernel

end Offsets

end Cert.Gather

end
-- ==== Proof.Protocol.lean ====
/-
# The protocol of the run

What the devices agree on: which semaphore stands for what, what a signal or a landed transfer hands the device
waiting for it, what each device owes, and in which order waits may be made.

Every device has 25 semaphore cells: its barrier, one send cell and one receive cell for each of the twelve
transfers. Each cell runs one round. A neighbour's barrier signal hands over the places of its result the signalled
device is going to write; a send cell hands the source rows back; a receive cell hands over the landed rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Geometry
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The protocol's part of the resources: rounds with three duty names, one for each axis. -/
abbrev UB : Type := URounds (GSem nD τ sig) (Fin 3)
/-- Beside the launch's own. -/
abbrev UU : Type := UR sig nD τ × UB

local notation "𝕄" => MT nD τ sig Unit (Elt F) ℕ UU ℕ

/-- Where the launch's part sits, -/
abbrev EP : Emb (UR sig nD τ) (MT nD τ sig Unit (Elt F) ℕ UU ℕ) := embL
/-- and where the protocol's does. -/
abbrev ER : Emb UB (MT nD τ sig Unit (Elt F) ℕ UU ℕ) := embR

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Buffers and semaphores -/

/-- The staged block of the argument. -/
abbrev xM : Memref sig .tc .vmem S2048x512 .bf16 := Memref.whole cc0_stg0_0
/-- The staged result. -/
abbrev oM : Memref sig .tc .vmem S4096x512 .bf16 := Memref.whole cc0_stg1_0
/-- Where the result of device `c` is. -/
abbrev oloc (c : Dev nD) : Loc nD τ sig := (c : Thread nD τ).loc cc0_stg1_0
/-- Where its staged argument is. -/
abbrev xloc (c : Dev nD) : Loc nD τ sig := (c : Thread nD τ).loc cc0_stg0_0

/-- The semaphore the devices greet each other by. -/
abbrev barS : Sem sig := (SemArray.scalar (sig.barrier 0 rfl) : Sems sig S_).sem
/-- The semaphore transfer `i` counts its departure on, -/
def sendIx : Fin 12 → Fin 26 := ![2, 3, 4, 5, 6, 7, 8, 9, 18, 22, 19, 23]
/-- and its arrival. -/
def recvIx : Fin 12 → Fin 26 := ![10, 11, 12, 13, 14, 15, 16, 17, 20, 24, 21, 25]

/-- The kinds of cell: the barrier, the send cell of a transfer, the receive cell of a transfer. -/
abbrev Kind : Type := Option (Fin 12 ⊕ Fin 12)
/-- Its semaphore. -/
@[reducible] def ksem : Kind → SemLoc sig
  | none => .reg barS
  | some (.inl i) => .dma (sendIx i : DmaSem sig)
  | some (.inr i) => .dma (recvIx i : DmaSem sig)
/-- What a transfer semaphore is for, by its number. -/
def kindOf : Fin 26 → Option Kind :=
  ![none, none, some (some (.inl 0)), some (some (.inl 1)), some (some (.inl 2)), some (some (.inl 3)), some (some (.inl 4)),
    some (some (.inl 5)), some (some (.inl 6)), some (some (.inl 7)), some (some (.inr 0)), some (some (.inr 1)), some (some (.inr 2)),
    some (some (.inr 3)), some (some (.inr 4)), some (some (.inr 5)), some (some (.inr 6)), some (some (.inr 7)), some (some (.inl 8)),
    some (some (.inl 10)), some (some (.inr 8)), some (some (.inr 10)), some (some (.inl 9)), some (some (.inl 11)),
    some (some (.inr 9)), some (some (.inr 11))]
/-- What a semaphore is for; `none` for the two that staging uses. -/
def role : SemLoc sig → Option Kind
  | .reg s => if s = barS then some none else none
  | .dma q => kindOf q

/-- A cell's semaphore is for that cell. -/
theorem role_ksem : ∀ k : Kind, role (ksem k) = some k := by decide +kernel

/-- The cell of kind `k` on device `c`. -/
abbrev kcell (ck : Dev nD × Kind) : GSem nD τ sig := ((ck.1 : Thread nD τ), ksem ck.2)
/-- Different cells are different. -/
theorem kcell_injective : Function.Injective kcell := by
  rintro ⟨c, k⟩ ⟨c', k'⟩ h
  have h1 : c = c' := congrArg (fun g : GSem nD τ sig => g.1.1) h
  have h2 : ksem k = ksem k' := congrArg Prod.snd h
  have h3 : some k = some k' := by rw [← role_ksem k, ← role_ksem k', h2]
  rw [h1, Option.some.inj h3]

/-- Device `c`'s barrier cell. -/
abbrev barCell (c : Dev nD) : GSem nD τ sig := kcell (c, none)
/-- Its send cell of transfer `i`. -/
abbrev sndCell (c : Dev nD) (i : Fin 12) : GSem nD τ sig := kcell (c, some (.inl i))
/-- Its receive cell of transfer `i`. -/
abbrev rcvCell (c : Dev nD) (i : Fin 12) : GSem nD τ sig := kcell (c, some (.inr i))

/-- What a transfer of 128 rows counts, -/
def credS : ℕ := (oM.slice (Rect.unit (s := S4096x512) ![0, 0] S128x512.size (by decide)) (fun _ => rfl)).view.dmaCredit
/-- and one of 256. -/
def credL : ℕ := (oM.slice (Rect.unit (s := S4096x512) ![0, 0] S256x512.size (by decide)) (fun _ => rfl)).view.dmaCredit
/-- What transfer `i` counts. -/
def cr (i : Fin 12) : ℕ := if i.val < 8 then credS else credL
/-- It is something. -/
theorem cr_pos (i : Fin 12) : 0 < cr i := by
  unfold cr; split
  · exact View.dmaCredit_pos _ (by decide)
  · exact View.dmaCredit_pos _ (by decide)

/-! ## Contents -/

/-- The block of the argument device `c` has staged. -/
def xstg (c : Dev nD) : (cc0_stg0_0 : Ref sig .tc).ty.Contents (Elt F) :=
  (win0_0.blk (0 : Fin 1)).view.read (Elt F) ((s₀ m ρ).mem ((c : Thread nD τ).loc main_arg0))

/-- The index in a block of the element that stands at index `i` of the result. -/
def bidx (i : S4096x512.Idx) : S2048x512.Idx := fun a => match a with
  | ⟨0, _⟩ => ⟨(i 0).val % 2048, Nat.mod_lt _ (by decide)⟩
  | ⟨1, _⟩ => i 1

/-- The result on device `c`: at each row, what the device it comes from has staged. -/
def outAt (c : Dev nD) : (cc0_stg1_0 : Ref sig .tc).ty.Contents (Elt F) :=
  fun i => xstg m ρ (origin c ((i 0).val / 512)) (bidx i)

/-- Rows of one 512-row block between rows `a` and `a + n` are in the block of row `a`. -/
theorem block_of_row {a n r : ℕ} (hb : a / 512 = (a + n - 1) / 512) (h1 : a ≤ r) (h2 : r < a + n) : r / 512 = a / 512 := by
  have h3 : a / 512 ≤ r / 512 := Nat.div_le_div_right h1
  have h4 : r / 512 ≤ (a + n - 1) / 512 := Nat.div_le_div_right (by omega)
  omega

omit [FloatOps F] in
/-- The two ends of a transfer agree on the contents of its rows. -/
theorem outAt_peer (c : Dev nD) (i : Fin 12) {j : S4096x512.Idx} (h : j ∈ rows (trow c i) (tlen i)) :
    outAt m ρ (peer i c) j = outAt m ρ c j := by
  obtain ⟨h1, h2⟩ := mem_rows.mp h
  unfold outAt
  rw [block_of_row (origin_sent c i).2 h1 h2, (origin_sent c i).1]

omit [FloatOps F] in
/-- On its own rows a device's result is its own block. -/
theorem outAt_own (c : Dev nD) (p : Fin 16) {j : S4096x512.Idx} (h : j ∈ rows (prow c p) 128) :
    outAt m ρ c j = xstg m ρ c (bidx j) := by
  obtain ⟨h1, h2⟩ := mem_rows.mp h
  unfold outAt
  rw [block_of_row (n := 128) (by have := (origin_own c p).2; omega) h1 h2, (origin_own c p).1]

/-! ## Rows held -/

/-- Device `c`'s result rows `a` to `a + n`, at share `q`, holding what `f` says. -/
def pts (c : Dev nD) (a n : ℕ) (q : PosShare TreeShare) (f : (cc0_stg1_0 : Ref sig .tc).ty.Contents (Elt F)) : sProp 𝕄 :=
  oloc c ↦[rows a n]{q} f
/-- The same with whatever contents, at the full share. -/
def raw (c : Dev nD) (a n : ℕ) : sProp 𝕄 := iprop(∃ f, pts (F := F) c a n fullShare f)
/-- The staged argument. -/
def xPts (c : Dev nD) : sProp 𝕄 := xloc c ↦{fullShare} xstg m ρ c

omit [FloatOps F] in
instance pts_storable (c : Dev nD) (a n : ℕ) (q) (f) : BI.Storable (upEmb : UEmb _ 𝕄) (pts (F := F) c a n q f) := by
  unfold pts; infer_instance
omit [FloatOps F] in
instance raw_storable (c : Dev nD) (a n : ℕ) : BI.Storable (upEmb : UEmb _ 𝕄) (raw (F := F) c a n) := by
  unfold raw; infer_instance

/-- The share of its source a transfer holds: across `y` all of it, across `x` the one half, across `z` the other. -/
def tsh (i : Fin 12) : PosShare TreeShare :=
  if i.val < 8 then fullShare else if i.val % 2 = 0 then fullShare.left else fullShare.right

/-- The source rows of transfer `i` of device `c`, holding the result. -/
def srcP (c : Dev nD) (i : Fin 12) : sProp 𝕄 := pts c (trow c i) (tlen i) (tsh i) (outAt m ρ c)
/-- The rows of device `c` where transfer `i` lands, holding the result. -/
def landP (c : Dev nD) (i : Fin 12) : sProp 𝕄 := pts c (lrow c i) (tlen i) fullShare (outAt m ρ c)
/-- Those rows before. -/
def landRaw (c : Dev nD) (i : Fin 12) : sProp 𝕄 := raw (F := F) c (lrow c i) (tlen i)

/-! ## Families with a condition -/

section Fam
variable {ι : Type} [Fintype ι] [DecidableEq ι]

/-- The `Φ i` of the indices `i` with `p i`. -/
def fam (Φ : ι → sProp 𝕄) (p : ι → Prop) [DecidablePred p] : sProp 𝕄 := bigSep Finset.univ fun i => if p i then Φ i else iprop(emp)

omit [FloatOps F] in
/-- Nothing beside an assertion changes nothing, on the left -/
theorem emp_left (P : sProp 𝕄) : iprop(emp ∗ P) = P := equiv_iff.mp BI.emp_sep
omit [FloatOps F] in
/-- or on the right. -/
theorem emp_right (P : sProp 𝕄) : iprop(P ∗ emp) = P := equiv_iff.mp BI.sep_emp
omit [FloatOps F] in
/-- A condition is as good as an equivalent one. -/
theorem fam_congr (Φ : ι → sProp 𝕄) {p p' : ι → Prop} [DecidablePred p] [DecidablePred p'] (h : ∀ i, p i ↔ p' i) : fam Φ p = fam Φ p' :=
  bigSep_congr fun i _ => if_congr (h i) rfl rfl
omit [FloatOps F] in
/-- One member and the others. -/
theorem fam_step (Φ : ι → sProp 𝕄) {p p' : ι → Prop} [DecidablePred p] [DecidablePred p'] (i : ι) (hp : p i) (hp' : ¬ p' i)
    (h : ∀ j, j ≠ i → (p j ↔ p' j)) : fam Φ p = iprop(Φ i ∗ fam Φ p') := by
  unfold fam
  have e : (bigSep (Finset.univ.erase i) fun j => if p j then Φ j else iprop(emp)) = bigSep (Finset.univ.erase i) fun j => if p' j then Φ j else iprop(emp) :=
    bigSep_congr fun j hj => if_congr (h j (Finset.ne_of_mem_erase hj)) rfl rfl
  rw [bigSep_univ_split i, e, if_pos hp, bigSep_univ_split (Φ := fun j => if p' j then Φ j else iprop(emp)) i, if_neg hp']
  exact congrArg _ (emp_left _).symm
omit [FloatOps F] in
/-- No member. -/
theorem fam_none (Φ : ι → sProp 𝕄) {p : ι → Prop} [DecidablePred p] (h : ∀ i, ¬ p i) : fam Φ p = iprop(emp) :=
  (bigSep_congr fun i _ => if_neg (h i)).trans (bigSep_emp_const _)
omit [FloatOps F] in
/-- All members. -/
theorem fam_all (Φ : ι → sProp 𝕄) {p : ι → Prop} [DecidablePred p] (h : ∀ i, p i) : fam Φ p = bigSep Finset.univ Φ :=
  bigSep_congr fun i _ => if_pos (h i)
omit [FloatOps F] in
/-- A family parted in two by a further condition. -/
theorem fam_part (Φ : ι → sProp 𝕄) {p p' p'' : ι → Prop} [DecidablePred p] [DecidablePred p'] [DecidablePred p'']
    (h : ∀ i, p i ↔ (p' i ∨ p'' i)) (h' : ∀ i, ¬ (p' i ∧ p'' i)) : fam Φ p = iprop(fam Φ p' ∗ fam Φ p'') := by
  unfold fam
  rw [← bigSep_sep']
  refine bigSep_congr fun i _ => ?_
  by_cases h1 : p' i
  · rw [if_pos ((h i).mpr (.inl h1)), if_pos h1, if_neg fun h2 => h' i ⟨h1, h2⟩]; exact (emp_right _).symm
  · by_cases h2 : p'' i
    · rw [if_pos ((h i).mpr (.inr h2)), if_neg h1, if_pos h2]; exact (emp_left _).symm
    · rw [if_neg fun h3 => ((h i).mp h3).elim h1 h2, if_neg h1, if_neg h2]; exact (emp_left _).symm
omit [FloatOps F] in
instance fam_storable (Φ : ι → sProp 𝕄) (p : ι → Prop) [DecidablePred p] [∀ i, BI.Storable (upEmb : UEmb _ 𝕄) (Φ i)] :
    BI.Storable (upEmb : UEmb _ 𝕄) (fam Φ p) := by
  unfold fam
  have : ∀ i, BI.Storable (upEmb : UEmb _ 𝕄) (if p i then Φ i else iprop(emp)) := fun i => by split <;> infer_instance
  infer_instance

end Fam

/-! ## The schedule -/

/-- What the neighbour of `c` across axis `d` hands over by its signal: its rows the transfers of `c` across `d` land on. -/
def barPay (c : Dev nD) (d : Fin 3) : sProp 𝕄 := fam (fun i => landRaw (F := F) (peer i c) i) fun i => tax i = d

/-- The duties of a cell's one round. -/
def kduties : Option Kind → Finset (Fin 3)
  | some none => Finset.univ
  | some (some _) => {0}
  | none => ∅
/-- What each duty counts. -/
def kamount : Option Kind → ℕ
  | some (some (.inl i)) => cr i
  | some (some (.inr i)) => cr i
  | _ => 1
/-- What each duty hands over. -/
def kpayload (c : Dev nD) (d : Fin 3) : Option Kind → sProp 𝕄
  | some none => barPay (F := F) c d
  | some (some (.inl i)) => srcP m ρ c i
  | some (some (.inr i)) => landP m ρ c i
  | none => iprop(emp)

/-- One round: the barrier has a duty for each neighbour, of one unit; the other cells one duty of the transfer's count. -/
def Rd : Rounds.Schedule (GSem nD τ sig) (Fin 3) 𝕄 where
  duties g r := if r = 0 ∧ g.1.2 = .tc then kduties (role g.2) else ∅
  unitless _ := False
  amount g _ _ := kamount (role g.2)
  payload g _ d := kpayload m ρ g.1.1 d (role g.2)
  amount_pos g _ _ _ := by
    unfold kamount; split
    · exact cr_pos _
    · exact cr_pos _
    · exact Nat.one_pos

omit [FloatOps F] in
instance Rd_payload_storable (g : GSem nD τ sig) (r : ℕ) (d : Fin 3) : BI.Storable (upEmb : UEmb _ 𝕄) ((Rd (F := F) m ρ).payload g r d) := by
  show BI.Storable upEmb (kpayload m ρ g.1.1 d (role g.2))
  unfold kpayload
  split
  · unfold barPay landRaw; infer_instance
  · unfold srcP; infer_instance
  · unfold landP; infer_instance
  · infer_instance

section Sched
variable (c : Dev nD)

omit [FloatOps F] in
/-- The payments due to a cell in its one round are those of its kind. -/
theorem duties_cell (k : Kind) : (Rd (F := F) m ρ).duties (kcell (c, k)) 0 = kduties (some k) := by
  dsimp only [Rd]; rw [if_pos ⟨rfl, rfl⟩, role_ksem]
omit [FloatOps F] in
/-- After that round nothing more is due to any cell. -/
theorem duties_later (g : GSem nD τ sig) : ∀ r, 1 ≤ r → (Rd (F := F) m ρ).duties g r = ∅ :=
  fun r hr => if_neg fun h => by omega
omit [FloatOps F] in
/-- What each payment to a cell brings is told by the cell's kind. -/
theorem amount_cell (k : Kind) (d : Fin 3) : (Rd (F := F) m ρ).amount (kcell (c, k)) 0 d = kamount (some k) := by
  dsimp only [Rd]; rw [role_ksem]
omit [FloatOps F] in
/-- And so is what it hands over. -/
theorem payload_cell (k : Kind) (d : Fin 3) : (Rd (F := F) m ρ).payload (kcell (c, k)) 0 d = kpayload m ρ c d (some k) := by
  dsimp only [Rd]; rw [role_ksem]

omit [FloatOps F] in
/-- A barrier waits for three units, -/
theorem expect_bar : (Rd (F := F) m ρ).expect (barCell c) 0 = 3 := by
  unfold Schedule.expect Schedule.amountOf
  rw [duties_cell, Finset.sum_congr rfl fun d _ => amount_cell m ρ c none d]; rfl
omit [FloatOps F] in
/-- a transfer's cells for its count. -/
theorem expect_xfer (k : Fin 12 ⊕ Fin 12) : (Rd (F := F) m ρ).expect (kcell (c, some k)) 0 = kamount (some (some k)) := by
  unfold Schedule.expect Schedule.amountOf
  rw [duties_cell, show kduties (some (some k)) = {0} from rfl, Finset.sum_singleton, amount_cell]

omit [FloatOps F] in
/-- What a barrier round brings: the peers' landing rows, all of them. -/
theorem rest_bar : bigSep ((Rd (F := F) m ρ).duties (barCell c) 0 \ ∅) (fun d => (Rd (F := F) m ρ).payload (barCell c) 0 d)
    = bigSep Finset.univ fun i => landRaw (F := F) (peer i c) i := by
  rw [Finset.sdiff_empty, duties_cell, bigSep_congr (fun d _ => payload_cell m ρ c none d)]
  show bigSep (Finset.univ : Finset (Fin 3)) (fun d => barPay c d) = _
  rw [bigSep_univ_eq_bigSepL [0, 1, 2] (by decide) (by decide), bigSepL_cons_cons, bigSepL_cons_cons, bigSepL_singleton,
    ← fam_all (fun i => landRaw (F := F) (peer i c) i) (p := fun _ => True) (fun _ => trivial),
    fam_part (p' := fun i => tax i = 0) (p'' := fun i => tax i = 1 ∨ tax i = 2) (fun i => landRaw (F := F) (peer i c) i) (by decide) (by decide),
    fam_part (p' := fun i => tax i = 1) (p'' := fun i => tax i = 2) (fun i => landRaw (F := F) (peer i c) i) (fun _ => Iff.rfl) (by decide)]
  rfl
omit [FloatOps F] in
/-- What a transfer cell's round brings. -/
theorem rest_xfer (k : Fin 12 ⊕ Fin 12) :
    bigSep ((Rd (F := F) m ρ).duties (kcell (c, some k)) 0 \ ∅) (fun d => (Rd (F := F) m ρ).payload (kcell (c, some k)) 0 d) = kpayload m ρ c 0 (some (some k)) := by
  rw [Finset.sdiff_empty, duties_cell, show kduties (some (some k)) = {0} from rfl, bigSep_singleton, payload_cell]

end Sched

/-! ## What is owed, and the order of waits -/

/-- The fifteen things device `c` pays, in program order: a unit to each neighbour's barrier, then the arrival of each
    transfer. Its cell -/
def dueDev (c : Dev nD) (k : Fin 15) : Dev nD := if h : k.val < 3 then nb ⟨k.val, h⟩ c else peer ⟨k.val - 3, by omega⟩ c
/-- (of this kind) -/
def dueKind (k : Fin 15) : Kind := if h : k.val < 3 then none else some (.inr ⟨k.val - 3, by omega⟩)
/-- and how much. -/
def dueAmt (k : Fin 15) : ℕ := kamount (some (dueKind k))

/-- The tally of payment `k`. -/
abbrev due (c : Dev nD) (k : Fin 15) : CellTallies nD τ sig Unit := tallyAt (kcell (dueDev c k, dueKind k)) () (dueAmt k)
/-- What device `c` owes once it has made the first `n` payments. -/
def owed (c : Dev nD) (n : ℕ) : CellTallies nD τ sig Unit := ∑ k : Fin 15, if n ≤ k.val then due c k else 0

/-- Making payment `n`. -/
theorem owed_step (c : Dev nD) (n : ℕ) (k : Fin 15) (hk : k.val = n) : owed c n = owed c (n + 1) + due c k := by
  unfold owed
  rw [← Finset.add_sum_erase _ _ (Finset.mem_univ k), ← Finset.add_sum_erase (a := k) Finset.univ (fun k : Fin 15 => if n + 1 ≤ k.val then due c k else 0) (Finset.mem_univ k),
    if_pos (by omega), if_neg (by omega), zero_add, add_comm]
  refine congrArg (· + due c k) (Finset.sum_congr rfl fun j hj => ?_)
  have hj' : j.val ≠ k.val := fun h => Finset.ne_of_mem_erase hj (Fin.ext h)
  exact if_congr (by omega) rfl rfl
/-- All paid. -/
theorem owed_all (c : Dev nD) : owed c 15 = 0 := Finset.sum_eq_zero fun k _ => if_neg (by omega)

/-- The level of a kind: staging and send cells lowest, barriers above them, then receive cells of what comes across `y`,
    then those of what is forwarded. -/
def rlev : Option Kind → ℕ
  | some none => 1
  | some (some (.inr i)) => if i.val < 8 then 2 else 3
  | _ => 0
/-- The one index of a cell of a core. -/
def L (g : GSem nD τ sig) : Finset Unit := if g.1.2 = .tc then {()} else ∅
/-- The level of a cell. -/
def lv (g : GSem nD τ sig) (_ : Unit) : ℕ := rlev (role g.2)

/-- Only the cells of the TensorCores have an index. -/
theorem L_of_ne (g : GSem nD τ sig) (h : g.1.2 ≠ .tc) : L g = ∅ := if_neg h
/-- The cell of a TensorCore has one. -/
theorem L_tc (c : Dev nD) (sm : SemLoc sig) : L ((c : Thread nD τ), sm) = {()} := if_pos rfl

/-- Only the cells of outstanding payments are owed anything. -/
theorem owed_pos {c : Dev nD} {n : ℕ} {g : GSem nD τ sig} {u : Unit} (h : 0 < owed c n g u) :
    ∃ k : Fin 15, n ≤ k.val ∧ g = kcell (dueDev c k, dueKind k) := by
  unfold owed at h
  rw [Finset.sum_apply, Finsupp.finset_sum_apply] at h
  obtain ⟨k, -, hk⟩ := Finset.exists_ne_zero_of_sum_ne_zero (Nat.pos_iff_ne_zero.mp h)
  by_cases hn : n ≤ k.val
  · rw [if_pos hn] at hk
    exact ⟨k, hn, (Pipeline.tallyAt_pos (Nat.pos_of_ne_zero hk)).1⟩
  · rw [if_neg hn] at hk; exact absurd rfl hk

omit [FloatOps F] in
/-- A device may wait on a semaphore whose level is below those of all its outstanding payments. -/
theorem mayWait (c : Dev nD) (sm : SemLoc sig) (n : ℕ) (h : ∀ k : Fin 15, n ≤ k.val → rlev (role sm) < rlev (some (dueKind k))) :
    (levAts L lv : sProp 𝕄) ⊢ MayWait (c : Thread nD τ) sm () (owed c n) :=
  Pipeline.mayWait_of_levAts (by rw [L_tc]; exact Finset.mem_singleton_self _) fun g i hg => by
    obtain ⟨k, hk, rfl⟩ := owed_pos hg
    refine ⟨by rw [L_tc]; exact Finset.mem_singleton_self _, ?_⟩
    dsimp only [lv]; rw [role_ksem]; exact h k hk

end Cert.Gather

end
-- ==== Proof.State.lean ====
/-
# The state of a device during the run, and its steps

How far a device has come is six numbers: `q` signals sent (4 once the barrier wait is over), `a` pieces converted, `b`
transfers issued, `r` arrivals waited for, `w` departures waited for, and `j` pairs of landed pieces cut in shares to be
forwarded. The assertion `St` says what the device holds then. Each step of the program raises one of the numbers, and
there is one lemma for each kind of step.
-/
module

public import proofs.«01_k».proof.Proof.Protocol
public import Idealize.ShloMosaic.Lib.ValueIdxCore

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- No routine is recursive or called from a loop. -/
abbrev 𝒱₀ : Variants := Variants.none

/-! ## Views of the two buffers -/

section Views

omit [FloatOps F] in
/-- A slice of whole rows has exactly those rows' elements. -/
theorem slice_set (a n : ℕ) (inb) :
    ((View.whole cc0_stg1_0).slice (Rect.unit (s := S4096x512) ![a, 0] ![n, 512] inb)).set = rows a n := by
  rw [View.set_slice_whole]
  refine Finset.ext fun i => (Rect.mem_set_unit).trans ?_
  rw [mem_rows]
  refine ⟨fun h => h 0, fun h k => ?_⟩
  match k with
  | ⟨0, _⟩ => exact h
  | ⟨1, _⟩ => exact ⟨Nat.zero_le _, by have : (i 1).val < 512 := (i 1).isLt; show (i 1).val < 0 + 512; omega⟩

omit [FloatOps F] in
/-- Rows copied to the same rows of another buffer of that shape are the rows. -/
theorem copy_rows (a n : ℕ) (inb) (f g : (cc0_stg1_0 : Ref sig .tc).ty.Contents (Elt F)) {j : S4096x512.Idx} (hj : j ∈ rows a n) :
    ((View.whole cc0_stg1_0).slice (Rect.unit (s := S4096x512) ![a, 0] ![n, 512] inb)).write (Elt F) f
      (((View.whole cc0_stg1_0).slice (Rect.unit (s := S4096x512) ![a, 0] ![n, 512] inb)).read (Elt F) g) Finset.univ j = g j := by
  rw [← slice_set a n inb] at hj
  obtain ⟨y, -, rfl⟩ := Finset.mem_map.mp hj
  exact View.write_emb_of_mem _ _ (Finset.mem_univ y)

/-- Piece `p` of the staged block of device `c`. -/
def xpiece (c : Dev nD) (p : Fin 16) : S128x512.Idx → Elt F .bf16 := fun y =>
  xstg m ρ c (ix2 ⟨xrow c p + (y 0).val, by have := xrow_le c p; have : (y 0).val < 128 := (y 0).isLt; omega⟩ (y 1))

omit [FloatOps F] in
/-- Reading those rows of the staged block gives the piece. -/
theorem read_xpiece (c : Dev nD) (p : Fin 16) (inb) :
    ((View.whole cc0_stg0_0).slice (Rect.unit (s := S2048x512) ![xrow c p, 0] S128x512.size inb)).read (Elt F) (xstg m ρ c) = xpiece m ρ c p := by
  funext y
  refine congrArg (xstg m ρ c) (funext fun k => ?_)
  match k with
  | ⟨0, _⟩ => exact Fin.ext (show xrow c p + 1 * (y 0).val = xrow c p + (y 0).val by omega)
  | ⟨1, _⟩ => exact Fin.ext (show 0 + 1 * (y 1).val = (y 1).val by omega)

omit [FloatOps F] in
/-- A piece written to its place makes those rows the result. -/
theorem write_xpiece (c : Dev nD) (p : Fin 16) (inb) (f : (cc0_stg1_0 : Ref sig .tc).ty.Contents (Elt F)) {j : S4096x512.Idx}
    (hj : j ∈ rows (prow c p) 128) :
    ((View.whole cc0_stg1_0).slice (Rect.unit (s := S4096x512) ![prow c p, 0] S128x512.size inb)).write (Elt F) f (xpiece m ρ c p) Finset.univ j
      = outAt m ρ c j := by
  rw [outAt_own m ρ c p hj]
  rw [← slice_set (prow c p) 128 inb] at hj
  obtain ⟨y, -, rfl⟩ := Finset.mem_map.mp hj
  refine (View.write_emb_of_mem _ _ (Finset.mem_univ y)).trans (congrArg (xstg m ρ c) (funext fun k => ?_))
  have h1 := xrow_le c p
  have h2 : (y 0).val < 128 := (y 0).isLt
  match k with
  | ⟨0, _⟩ => exact Fin.ext (show xrow c p + (y 0).val = (2048 * cy c + xrow c p + 1 * (y 0).val) % 2048 by omega)
  | ⟨1, _⟩ => exact Fin.ext (show (y 1).val = 0 + 1 * (y 1).val by omega)

end Views

/-! ## The assertion -/

variable (K : Dev nD × Kind → ℕ)

/-- What every device knows throughout: the protocol's invariants, that every cell has reached its round, the levels. -/
def records : sProp 𝕄 :=
  iprop((bigSep Finset.univ fun ck : Dev nD × Kind => cellInv ER (Rd m ρ) (K ck) (kcell ck))
    ∗ (bigSep Finset.univ fun ck : Dev nD × Kind => reached ER (kcell ck) 0) ∗ levAts L lv)

instance records_persistent : BI.Persistent (records m ρ K) := by unfold records; infer_instance

omit [FloatOps F] in
/-- The records hold the invariant of each cell, -/
theorem inv_of (ck : Dev nD × Kind) : records m ρ K ⊢ cellInv ER (Rd m ρ) (K ck) (kcell ck) := by
  unfold records; iintro ⟨H, -, -⟩
  iapply (show (bigSep Finset.univ fun ck : Dev nD × Kind => (cellInv ER (Rd m ρ) (K ck) (kcell ck) : sProp 𝕄)) ⊢ cellInv ER (Rd m ρ) (K ck) (kcell ck) from
    bigSep_elim (Finset.mem_univ ck)); iexact H
omit [FloatOps F] in
/-- that each cell has come to its round, -/
theorem reached_of (ck : Dev nD × Kind) : records m ρ K ⊢ reached ER (kcell ck) 0 := by
  unfold records; iintro ⟨-, H, -⟩
  iapply (show (bigSep Finset.univ fun ck : Dev nD × Kind => (reached ER (kcell ck) 0 : sProp 𝕄)) ⊢ reached ER (kcell ck) 0 from
    bigSep_elim (Finset.mem_univ ck)); iexact H
omit [FloatOps F] in
/-- and the levels. -/
theorem lev_of : records m ρ K ⊢ (levAts L lv : sProp 𝕄) := by
  unfold records; iintro ⟨-, -, H⟩; iexact H

/-- Payments outstanding after the first `n`. -/
def owesP (c : Dev nD) (n : ℕ) : sProp 𝕄 := iprop(∃ W, owes (c : Thread nD τ) (owed c n) W)

/-- The token for the signal across axis `d`; -/
abbrev barTok (c : Dev nD) (d : Fin 3) : sProp 𝕄 := dutyTok ER (barCell (nb d c)) 0 d
/-- what the barrier wait needs; -/
abbrev barW (c : Dev nD) (_ : Fin 1) : sProp 𝕄 := iprop(atPos ER (barCell c) 0 ∅ 0 ∗ cred (tallyAt (barCell c) () 3))
/-- the two tokens for transfer `i`; -/
abbrev xTok (c : Dev nD) (i : Fin 12) : sProp 𝕄 := iprop(dutyTok ER (sndCell c i) 0 0 ∗ dutyTok ER (rcvCell (peer i c) i) 0 0)
/-- what the wait for its departure needs, the position, -/
abbrev sndPos (c : Dev nD) (i : Fin 12) : sProp 𝕄 := atPos ER (sndCell c i) 0 ∅ 0
/-- and the credit; -/
abbrev sndCred (c : Dev nD) (i : Fin 12) : sProp 𝕄 := cred (tallyAt (sndCell c i) () (cr i))
/-- what the wait for an arrival needs; -/
abbrev rcvW (c : Dev nD) (i : Fin 12) : sProp 𝕄 := iprop(atPos ER (rcvCell c i) 0 ∅ 0 ∗ cred (tallyAt (rcvCell c i) () (cr i)))
/-- piece `p` of its own rows before it is converted, -/
def ownRaw (c : Dev nD) (p : Fin 16) : sProp 𝕄 := raw (F := F) c (prow c p) 128
/-- and after. -/
def ownP (c : Dev nD) (p : Fin 16) : sProp 𝕄 := pts c (prow c p) 128 fullShare (outAt m ρ c)

/-- The source rows of which transfers are at hand: those that are ready and not in flight. -/
abbrev srcs (a b w j : ℕ) (i : Fin 12) : Prop := ((i.val < 8 ∧ i.val < a) ∨ (8 ≤ i.val ∧ i.val < 8 + 2 * j)) ∧ ¬ (i.val < b ∧ w ≤ i.val)

/-- What device `c` holds when it has come as far as the numbers say. -/
def St (c : Dev nD) (q a b r w j : ℕ) : sProp 𝕄 :=
  iprop(records m ρ K ∗ owesP (F := F) c (min q 3 + b) ∗ xPts m ρ c
    ∗ fam (barTok (F := F) c) (fun d => q ≤ d.val)
    ∗ fam (landRaw (F := F) c) (fun i => q ≤ (tax i).val)
    ∗ fam (barW (F := F) c) (fun _ => q < 4)
    ∗ fam (fun _ : Fin 1 => (semVal (barCell c) 0 : sProp 𝕄)) (fun _ => q = 4)
    ∗ fam (fun i => landRaw (F := F) (peer i c) i) (fun i => q = 4 ∧ b ≤ i.val)
    ∗ fam (ownRaw (F := F) c) (fun p => a ≤ p.val)
    ∗ fam (ownP m ρ c) (fun p => 8 ≤ p.val ∧ p.val < a)
    ∗ fam (srcP m ρ c) (srcs a b w j)
    ∗ fam (landP m ρ c) (fun i => i.val < r ∧ 2 * j ≤ i.val)
    ∗ fam (xTok (F := F) c) (fun i => b ≤ i.val)
    ∗ fam (sndPos (F := F) c) (fun i => w ≤ i.val)
    ∗ fam (sndCred (F := F) c) (fun i => w ≤ i.val ∧ i.val < b)
    ∗ fam (fun i => (semVal (sndCell c i) 0 : sProp 𝕄)) (fun i => i.val < w)
    ∗ fam (rcvW (F := F) c) (fun i => r ≤ i.val)
    ∗ fam (fun i => (semVal (rcvCell c i) 0 : sProp 𝕄)) (fun i => i.val < r))

/-! ## The steps -/

section Steps
variable (c : Dev nD)

/-- The first three payments are the signals: one unit to the barrier of each neighbour. -/
theorem due_sig (d : Fin 3) : due c ⟨d.val, by omega⟩ = tallyAt (barCell (nb d c)) () 1 := by
  have h : (⟨d.val, by omega⟩ : Fin 15).val < 3 := d.isLt
  unfold due dueAmt dueDev dueKind; rw [dif_pos h, dif_pos h]; rfl
/-- The twelve after them are the arrivals: the credit of each transfer, to the receive cell of its peer. -/
theorem due_arr (i : Fin 12) : due c ⟨3 + i.val, by omega⟩ = tallyAt (rcvCell (peer i c) i) () (cr i) := by
  have h : ¬ (⟨3 + i.val, by omega⟩ : Fin 15).val < 3 := by show ¬ 3 + i.val < 3; omega
  have e : (⟨(⟨3 + i.val, by omega⟩ : Fin 15).val - 3, by omega⟩ : Fin 12) = i := Fin.ext (by show 3 + i.val - 3 = i.val; omega)
  unfold due dueAmt dueDev dueKind; rw [dif_neg h, dif_neg h, e]; rfl

omit [FloatOps F] in
/-- What `c` hands its neighbour across axis `d`: its rows the neighbour's transfers across that axis land on. -/
theorem pay_nb (d : Fin 3) : (Rd (F := F) m ρ).payload (barCell (nb d c)) 0 d = fam (landRaw (F := F) c) fun i => tax i = d := by
  rw [payload_cell m ρ (nb d c) none d]
  show barPay (F := F) (nb d c) d = _
  unfold barPay fam
  refine bigSep_congr fun i _ => ?_
  by_cases h : tax i = d
  · rw [if_pos h, if_pos h]; show landRaw (nb (tax i) (nb d c)) i = _; rw [h, nb_nb]
  · rw [if_neg h, if_neg h]

/-- The signal to the neighbour across axis `d`: the rows its transfers land on are handed over. -/
theorem step_signal {q a r w j : ℕ} (d : Fin 3) (hq : d.val = q) {n : Dev nD} (hn : n = nb d c) {k' : ℕ} (hk' : k' = 1)
    {α : Type} {Q : α → sProp 𝕄} {k : PUnit → Prog (TpuEff nD τ sig (Elt F) Λ₀ .tc) α} :
    St m ρ K c q a 0 r w j ⊢ iprop((St m ρ K c (q + 1) a 0 r w j -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS k') k) Q) := by
  subst hn hk' hq
  have hd := d.isLt
  have h1 : ¬ (fun e : Fin 3 => d.val + 1 ≤ e.val) d := by show ¬ d.val + 1 ≤ d.val; omega
  have h2 : ∀ e : Fin 3, e ≠ d → (d.val ≤ e.val ↔ d.val + 1 ≤ e.val) := fun e he => by
    have : e.val ≠ d.val := fun h => he (Fin.ext h)
    omega
  have h3 : ∀ i : Fin 12, d.val ≤ (tax i).val ↔ (tax i = d ∨ d.val + 1 ≤ (tax i).val) := fun i => by rw [Fin.ext_iff]; omega
  have h4 : ∀ i : Fin 12, ¬ (tax i = d ∧ d.val + 1 ≤ (tax i).val) := fun i => by rw [Fin.ext_iff]; omega
  have h6 : d ∈ (Rd m ρ).duties (barCell (nb d c)) 0 := by rw [duties_cell m ρ (nb d c) none]; exact Finset.mem_univ _
  have h7 : τ.routes (c : Thread nD τ) (nb d c : Thread nD τ) = true := by routes
  have e1 : fam (barW (F := F) c) (fun _ => d.val < 4) = fam (barW (F := F) c) (fun _ => d.val + 1 < 4) := fam_congr _ fun _ => by omega
  have e2 : fam (fun _ : Fin 1 => (semVal (barCell c) 0 : sProp 𝕄)) (fun _ => d.val = 4) = fam (fun _ : Fin 1 => (semVal (barCell c) 0 : sProp 𝕄)) (fun _ => d.val + 1 = 4) :=
    fam_congr _ fun _ => by omega
  have e3 : fam (fun i => landRaw (F := F) (peer i c) i) (fun i => d.val = 4 ∧ 0 ≤ i.val) = fam (fun i => landRaw (F := F) (peer i c) i) (fun i => d.val + 1 = 4 ∧ 0 ≤ i.val) :=
    fam_congr _ fun _ => by omega
  have h5 : owed c d.val = owed c (d.val + 1) + tallyAt (barCell (nb d c)) () 1 := by
    rw [← due_sig c d]; exact owed_step c d.val ⟨d.val, by omega⟩ rfl
  unfold St owesP
  iintro ⟨#HR, ⟨%W, HO⟩, Hx, Htok, Hland, HbW, Hbz, Hpeer, Hraw, Hown, Hsrc, Hlanded, HxT, HsP, HsC, Hsz, HrW, Hrz⟩ Hk
  ihave Htok := (Entails.of_eq (fam_step (barTok (F := F) c) (p' := fun e => d.val + 1 ≤ e.val) d (Nat.le_refl _) h1 h2)) $$ Htok
  ihave Hland := (Entails.of_eq (fam_part (landRaw (F := F) c) (p' := fun i => tax i = d) (p'' := fun i => d.val + 1 ≤ (tax i).val) h3 h4)) $$ Hland
  icases Htok with ⟨Ht, Htok⟩
  icases Hland with ⟨Hl, Hland⟩
  iapply (Rounds.wp_signal 𝒱₀ ER (Rd m ρ) (c : Thread nD τ) none (dst := (nb d c : Thread nD τ)) (sem := barS) (r := 0) (d := d) (κ := K (nb d c, none))
      h6 (amount_cell m ρ (nb d c) none d) () (hr := h7) (owed c (d.val + 1))
      h5) $$ [HO Ht Hl]
  · isplitr; · iapply (inv_of m ρ K (nb d c, none)); iexact HR
    isplitl [HO]; · rw [show min d.val 3 + 0 = d.val by omega]; iexact HO
    isplitl [Ht]; · iexact Ht
    isplitl [Hl]
    · iapply (Entails.of_eq (pay_nb m ρ c d).symm); iexact Hl
    iapply (reached_of m ρ K (nb d c, none)); iexact HR
  iintro HO
  iapply Hk
  rw [← e1, ← e2, ← e3, show min (d.val + 1) 3 + 0 = d.val + 1 by omega]
  iframe HR Hx Htok Hland HbW Hbz Hpeer Hraw Hown Hsrc Hlanded HxT HsP HsC Hsz HrW Hrz
  iexists W; iexact HO

/-- The barrier wait: the peers' landing rows come with it. -/
theorem step_barwait {a r w j : ℕ} {k' : ℕ} (hk' : k' = 3)
    {α : Type} {Q : α → sProp 𝕄} {k : PUnit → Prog (TpuEff nD τ sig (Elt F) Λ₀ .tc) α} :
    St m ρ K c 3 a 0 r w j ⊢ iprop((St m ρ K c 4 a 0 r w j -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS k') k) Q) := by
  subst hk'
  have e1 : fam (barTok (F := F) c) (fun d => 3 ≤ d.val) = fam (barTok (F := F) c) (fun d => 4 ≤ d.val) := fam_congr _ fun d => by omega
  have e2 : fam (landRaw (F := F) c) (fun i => 3 ≤ (tax i).val) = fam (landRaw (F := F) c) (fun i => 4 ≤ (tax i).val) := fam_congr _ fun i => by omega
  have e3 : fam (barW (F := F) c) (fun _ => 3 < 4) = iprop(barW (F := F) c 0 ∗ fam (barW (F := F) c) (fun _ => 4 < 4)) :=
    fam_step _ 0 (by omega) (by omega) fun d hd => absurd (Subsingleton.elim d 0) hd
  have e4 : fam (fun _ : Fin 1 => (semVal (barCell c) 0 : sProp 𝕄)) (fun _ => 4 = 4)
      = iprop(semVal (barCell c) 0 ∗ fam (fun _ : Fin 1 => (semVal (barCell c) 0 : sProp 𝕄)) (fun _ => 3 = 4)) :=
    fam_step _ 0 rfl (by omega) fun d hd => absurd (Subsingleton.elim d 0) hd
  have e5 : fam (fun i => landRaw (F := F) (peer i c) i) (fun i => 3 = 4 ∧ 0 ≤ i.val) = iprop(emp) := fam_none _ fun i => by omega
  have e6 : fam (fun i => landRaw (F := F) (peer i c) i) (fun i => 4 = 4 ∧ 0 ≤ i.val) = bigSep Finset.univ fun i => landRaw (F := F) (peer i c) i := fam_all _ fun i => by omega
  unfold St owesP
  rw [e3, e4, e5, e6, e1, e2]
  iintro ⟨#HR, ⟨%W, HO⟩, Hx, Htok, Hland, ⟨⟨Hat, Hcr⟩, HbW⟩, Hbz, -, Hraw, Hown, Hsrc, Hlanded, HxT, HsP, HsC, Hsz, HrW, Hrz⟩ Hk
  iapply (Rounds.wp_wait_rest_token 𝒱₀ ER (Rd m ρ) (c : Thread nD τ) none (κ := K (c, none))
      (wpE_semWait_eq 𝒱₀ (c : Thread nD τ) none Set.univ) (Set.mem_univ _) () (O := owed c 3) (W := W) (R := 0) (m := 0) (T := ∅)
      (by rw [expect_bar])) $$ [Hcr HO Hat]
  · isplitr; · iapply (inv_of m ρ K (c, none)); iexact HR
    isplitl [Hcr]; · iexact Hcr
    isplitl [HO]; · iexact HO
    isplitr; · iapply (mayWait (F := F) c (.reg barS) 3 (by decide)); iapply (lev_of m ρ K); iexact HR
    iexact Hat
  iintro ⟨HO, Hat, -, Hpay⟩
  ihave Hpeer := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_of m ρ K (c, none)); iexact HR
    iexact Hat
  iapply Hk
  iframe HR Hx Htok Hland HbW Hz Hbz Hpeer Hraw Hown Hsrc Hlanded HxT HsP HsC Hsz HrW Hrz
  iexists _; iexact HO

/-- Reading piece `p` of the staged block. -/
theorem step_loadx {q a b r w j : ℕ} (p : Fin 16) {off : Fin 2 → ℕ} (hoff : off = ![xrow c p, 0]) {inb} {hl}
    {α : Type} {Q : α → sProp 𝕄} {k : (S128x512.Idx → Elt F .bf16) → Prog (TpuEff nD τ sig (Elt F) Λ₀ .tc) α} :
    St m ρ K c q a b r w j ⊢ iprop((St m ρ K c q a b r w j -∗ wp frame (wpE (defs₀ (F := F)) 𝒱₀ (c : Thread nD τ) none) Set.univ (k (xpiece m ρ c p)) Q)
      -∗ wp frame (wpE (defs₀ (F := F)) 𝒱₀ (c : Thread nD τ) none) Set.univ
          (.op (.load xM (Rect.unit (s := S2048x512) off S128x512.size inb).toLoadRect hl) k) Q) := by
  subst hoff
  unfold St xPts
  iintro ⟨#HR, HO, Hx, Hrest⟩ Hk
  iapply (wp_load_rect 𝒱₀ (c : Thread nD τ) none Set.univ (m := xM) (r := Rect.unit (s := S2048x512) ![xrow c p, 0] S128x512.size inb)
    (S := Finset.univ) (f := xstg m ρ c) (Finset.subset_univ _)) $$ Hx
  iintro Hx
  rw [read_xpiece m ρ c p inb]
  iapply Hk
  iframe HR HO Hx Hrest

/-- Reading the place of piece `p` before it is converted: some value. -/
theorem step_loado {q a b r w j : ℕ} (p : Fin 16) (hp : p.val = a) {off : Fin 2 → ℕ} (hoff : off = ![prow c p, 0]) {inb} {hl}
    {α : Type} {Q : α → sProp 𝕄} {k : (S128x512.Idx → Elt F .bf16) → Prog (TpuEff nD τ sig (Elt F) Λ₀ .tc) α} :
    St m ρ K c q a b r w j ⊢ iprop((∀ v, St m ρ K c q a b r w j -∗ wp frame (wpE (defs₀ (F := F)) 𝒱₀ (c : Thread nD τ) none) Set.univ (k v) Q)
      -∗ wp frame (wpE (defs₀ (F := F)) 𝒱₀ (c : Thread nD τ) none) Set.univ
          (.op (.load oM (Rect.unit (s := S4096x512) off S128x512.size inb).toLoadRect hl) k) Q) := by
  subst hoff hp
  have e1 : fam (ownRaw (F := F) c) (fun i => p.val ≤ i.val) = iprop(ownRaw (F := F) c p ∗ fam (ownRaw (F := F) c) (fun i => p.val + 1 ≤ i.val)) :=
    fam_step _ p (Nat.le_refl _) (by omega) fun i hi => by have : i.val ≠ p.val := fun h => hi (Fin.ext h); omega
  unfold St
  rw [e1]
  unfold ownRaw raw pts
  iintro ⟨#HR, HO, Hx, Htok, Hland, HbW, Hbz, Hpeer, ⟨⟨%f, Hp⟩, Hraw⟩, Hrest⟩ Hk
  iapply (wp_load_rect 𝒱₀ (c : Thread nD τ) none Set.univ (m := oM) (r := Rect.unit (s := S4096x512) ![prow c p, 0] S128x512.size inb)
    (S := rows (prow c p) 128) (f := f) (slice_set (prow c p) 128 inb).subset) $$ Hp
  iintro Hp
  iapply Hk
  iframe HR HO Hx Htok Hland HbW Hbz Hpeer Hraw Hrest
  iexists f; iexact Hp

/-- Storing piece `p` makes its rows the result. -/
theorem own_store (p : Fin 16) {off : Fin 2 → ℕ} (hoff : off = ![prow c p, 0]) {inb} {v : S128x512.Idx → Elt F .bf16} (hv : v = xpiece m ρ c p) {hx hm}
    {α : Type} {Q : α → sProp 𝕄} {k : PUnit → Prog (TpuEff nD τ sig (Elt F) Λ₀ .tc) α} :
    ownRaw (F := F) c p ⊢ iprop((ownP m ρ c p -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S4096x512) off S128x512.size inb) v Finset.univ hx hm) k) Q) := by
  subst hoff hv
  unfold ownRaw raw ownP pts
  iintro ⟨%f, Hp⟩ Hk
  have e : ((oM.access (Rect.unit (s := S4096x512) ![prow c p, 0] S128x512.size inb)).loc (c : Thread nD τ) ↦[rows (prow c p) 128]{fullShare}
      ((oM.access (Rect.unit (s := S4096x512) ![prow c p, 0] S128x512.size inb)).write (Elt F) f (xpiece m ρ c p) Finset.univ) : sProp 𝕄)
      = (oloc c ↦[rows (prow c p) 128]{fullShare} outAt m ρ c) := pointsTo_congr fun i hi => write_xpiece m ρ c p inb f hi
  iapply (wp_store 𝒱₀ (c : Thread nD τ) none Set.univ (m := oM) (r := Rect.unit (s := S4096x512) ![prow c p, 0] S128x512.size inb)
    (Mk := Finset.univ) (S := rows (prow c p) 128) (f := f) (by rw [View.setOn_univ]; exact (slice_set (prow c p) 128 inb).subset)) $$ Hp
  iintro Hp
  iapply Hk
  iapply (Entails.of_eq e); iexact Hp

omit [FloatOps F] in
/-- The piece is the source of the transfer of its number. -/
theorem own_src (p : Fin 16) (i : Fin 12) (h : i.val < 8) (hp : p.val = i.val) : ownP m ρ c p = srcP m ρ c i := by
  unfold ownP srcP tlen tsh
  rw [trow_of_lt c i p h hp, if_pos h, if_pos h]

/-- Storing one of the first eight pieces, the source of a transfer yet to be issued. -/
theorem step_store_src {q a b r w j : ℕ} (p : Fin 16) (hp : p.val = a) (h8 : a < 8) (hb : b ≤ a) {off : Fin 2 → ℕ} (hoff : off = ![prow c p, 0]) {inb}
    {v : S128x512.Idx → Elt F .bf16} (hv : v = xpiece m ρ c p) {hx hm}
    {α : Type} {Q : α → sProp 𝕄} {k : PUnit → Prog (TpuEff nD τ sig (Elt F) Λ₀ .tc) α} :
    St m ρ K c q a b r w j ⊢ iprop((St m ρ K c q (a + 1) b r w j -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S4096x512) off S128x512.size inb) v Finset.univ hx hm) k) Q) := by
  have e1 : fam (ownRaw (F := F) c) (fun i => a ≤ i.val) = iprop(ownRaw (F := F) c p ∗ fam (ownRaw (F := F) c) (fun i => a + 1 ≤ i.val)) :=
    fam_step _ p (by omega) (by omega) fun i hi => by have : i.val ≠ p.val := fun h => hi (Fin.ext h); omega
  have e2 : fam (ownP m ρ c) (fun p => 8 ≤ p.val ∧ p.val < a + 1) = fam (ownP m ρ c) (fun p => 8 ≤ p.val ∧ p.val < a) := fam_congr _ fun i => by omega
  obtain ⟨i, hi⟩ : ∃ i : Fin 12, i.val = a := ⟨⟨a, by omega⟩, rfl⟩
  have e3 : fam (srcP m ρ c) (srcs (a + 1) b w j) = iprop(srcP m ρ c i ∗ fam (srcP m ρ c) (srcs a b w j)) :=
    fam_step _ i (by dsimp only [srcs]; omega) (by dsimp only [srcs]; omega)
      fun k hk => by have : k.val ≠ i.val := fun h => hk (Fin.ext h); dsimp only [srcs]; omega
  unfold St
  rw [e1, e2, e3]
  iintro ⟨#HR, HO, Hx, Htok, Hland, HbW, Hbz, Hpeer, ⟨Hp, Hraw⟩, Hown, Hsrc, Hrest⟩ Hk
  iapply (own_store m ρ c p hoff hv) $$ Hp
  iintro Hp
  ihave Hp := (Entails.of_eq (own_src m ρ c p i (by omega) (by omega))) $$ Hp
  iapply Hk
  iframe HR HO Hx Htok Hland HbW Hbz Hpeer Hraw Hown Hp Hsrc Hrest

/-- Storing one of the last eight pieces, which stay. -/
theorem step_store_keep {q a b r w j : ℕ} (p : Fin 16) (hp : p.val = a) (h8 : 8 ≤ a) {off : Fin 2 → ℕ} (hoff : off = ![prow c p, 0]) {inb}
    {v : S128x512.Idx → Elt F .bf16} (hv : v = xpiece m ρ c p) {hx hm}
    {α : Type} {Q : α → sProp 𝕄} {k : PUnit → Prog (TpuEff nD τ sig (Elt F) Λ₀ .tc) α} :
    St m ρ K c q a b r w j ⊢ iprop((St m ρ K c q (a + 1) b r w j -∗ wp frame (wpE (defs₀ (F := F)) 𝒱₀ (c : Thread nD τ) none) Set.univ (k ⟨⟩) Q)
      -∗ wp frame (wpE (defs₀ (F := F)) 𝒱₀ (c : Thread nD τ) none) Set.univ
          (.op (.store oM (Rect.unit (s := S4096x512) off S128x512.size inb) v Finset.univ hx hm) k) Q) := by
  have e1 : fam (ownRaw (F := F) c) (fun i => a ≤ i.val) = iprop(ownRaw (F := F) c p ∗ fam (ownRaw (F := F) c) (fun i => a + 1 ≤ i.val)) :=
    fam_step _ p (by omega) (by omega) fun i hi => by have : i.val ≠ p.val := fun h => hi (Fin.ext h); omega
  have e2 : fam (ownP m ρ c) (fun p => 8 ≤ p.val ∧ p.val < a + 1) = iprop(ownP m ρ c p ∗ fam (ownP m ρ c) (fun p => 8 ≤ p.val ∧ p.val < a)) :=
    fam_step _ p (by omega) (by omega) fun i hi => by have : i.val ≠ p.val := fun h => hi (Fin.ext h); omega
  have e3 : fam (srcP m ρ c) (srcs (a + 1) b w j) = fam (srcP m ρ c) (srcs a b w j) := fam_congr _ fun i => by dsimp only [srcs]; omega
  unfold St
  rw [e1, e2, e3]
  iintro ⟨#HR, HO, Hx, Htok, Hland, HbW, Hbz, Hpeer, ⟨Hp, Hraw⟩, Hown, Hrest⟩ Hk
  iapply (own_store m ρ c p hoff hv) $$ Hp
  iintro Hp
  iapply Hk
  iframe HR HO Hx Htok Hland HbW Hbz Hpeer Hraw Hp Hown Hrest

omit [FloatOps F] in
/-- What a transfer hands the peer. -/
theorem pay_arr (i : Fin 12) : (Rd (F := F) m ρ).payload (rcvCell (peer i c) i) 0 0
    = (oloc (peer i c) ↦[rows (trow c i) (tlen i)]{fullShare} outAt m ρ c : sProp 𝕄) := by
  rw [payload_cell m ρ (peer i c) (some (.inr i)) 0]
  show landP m ρ (peer i c) i = _
  unfold landP pts
  rw [lrow_peer]
  exact pointsTo_congr fun x hx => outAt_peer m ρ c i hx

/-- Issuing transfer `i`: its source rows leave, and the peer's landing rows with them. -/
theorem step_send {a b r w j : ℕ} (i : Fin 12) (hi : i.val = b) (hw : w ≤ b) (hsrc' : srcs a b w j i) {n : Dev nD} (hn : n = peer i c)
    {off sz : Fin 2 → ℕ} (hoff : off = ![trow c i, 0]) (hsz : sz = ![tlen i, 512]) {inb} {sS sR : SemLoc sig}
    (hS : sS = ksem (some (.inl i))) (hR : sR = ksem (some (.inr i)))
    (hcr : (oM.slice (Rect.unit (s := S4096x512) off sz inb) (fun _ => rfl)).view.dmaCredit = cr i)
    {hsc} {hsrc : (oM.slice (Rect.unit (s := S4096x512) off sz inb) (fun _ => rfl)).view.WordExact}
    {hdst : (oM.slice (Rect.unit (s := S4096x512) off sz inb) (fun _ => rfl)).view.WordExact} {hsem}
    {α : Type} {Q : α → sProp 𝕄} {k : PUnit → Prog (TpuEff nD τ sig (Elt F) Λ₀ .tc) α} :
    St m ρ K c 4 a b r w j ⊢ iprop((St m ρ K c 4 a (b + 1) r w j -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (oM.slice (Rect.unit (s := S4096x512) off sz inb) (fun _ => rfl))
            (.remote (Dev.tc n : Thread nD τ) (oM.slice (Rect.unit (s := S4096x512) off sz inb) (fun _ => rfl)) sS hsc) sR hsrc hdst hsem) k) Q) := by
  subst hoff hsz hn hS hR hi
  have hne : ∀ k : Fin 12, k ≠ i → k.val ≠ i.val := fun k hk h => hk (Fin.ext h)
  have e1 : fam (fun k => landRaw (F := F) (peer k c) k) (fun k => 4 = 4 ∧ i.val ≤ k.val)
      = iprop(landRaw (F := F) (peer i c) i ∗ fam (fun k => landRaw (F := F) (peer k c) k) (fun k => 4 = 4 ∧ i.val + 1 ≤ k.val)) :=
    fam_step _ i (by omega) (by omega) fun k hk => by have := hne k hk; omega
  have e2 : fam (srcP m ρ c) (srcs a i.val w j) = iprop(srcP m ρ c i ∗ fam (srcP m ρ c) (srcs a (i.val + 1) w j)) :=
    fam_step _ i hsrc' (by dsimp only [srcs]; omega) fun k hk => by have := hne k hk; dsimp only [srcs]; omega
  have e3 : fam (xTok (F := F) c) (fun k => i.val ≤ k.val) = iprop(xTok (F := F) c i ∗ fam (xTok (F := F) c) (fun k => i.val + 1 ≤ k.val)) :=
    fam_step _ i (by omega) (by omega) fun k hk => by have := hne k hk; omega
  have e4 : fam (sndCred (F := F) c) (fun k => w ≤ k.val ∧ k.val < i.val + 1)
      = iprop(sndCred (F := F) c i ∗ fam (sndCred (F := F) c) (fun k => w ≤ k.val ∧ k.val < i.val)) :=
    fam_step _ i (by omega) (by omega) fun k hk => by have := hne k hk; omega
  have e5 : owed c (3 + i.val) = owed c (3 + i.val + 1) + tallyAt (rcvCell (peer i c) i) () (cr i) := by
    rw [← due_arr c i]; exact owed_step c _ ⟨3 + i.val, by omega⟩ rfl
  have d1 : (0 : Fin 3) ∈ (Rd (F := F) m ρ).duties (sndCell c i) 0 := by rw [duties_cell m ρ c (some (.inl i))]; exact Finset.mem_singleton_self _
  have d2 : (0 : Fin 3) ∈ (Rd (F := F) m ρ).duties (rcvCell (peer i c) i) 0 := by
    rw [duties_cell m ρ (peer i c) (some (.inr i))]; exact Finset.mem_singleton_self _
  unfold St owesP
  rw [e1, e2, e3, e4, show min 4 3 + i.val = 3 + i.val by omega, show min 4 3 + (i.val + 1) = 3 + i.val + 1 by omega]
  unfold landRaw raw
  rw [lrow_peer]
  unfold srcP pts
  iintro ⟨#HR, ⟨%W, HO⟩, Hx, Htok, Hland, HbW, Hbz, ⟨⟨%f, Hd⟩, Hpeer⟩, Hraw, Hown, ⟨Hs, Hsrc⟩, Hlanded, ⟨⟨Ht1, Ht2⟩, HxT⟩, HsP, HsC, Hrest⟩ Hk
  iapply (Rounds.wp_send_pointsTo 𝒱₀ ER (Rd m ρ) (c : Thread nD τ) none (κ₁ := K (c, some (.inl i))) (κ₂ := K (peer i c, some (.inr i)))
    (r₁ := 0) (r₂ := 0) (d₁ := 0) (d₂ := 0) (fs := outAt m ρ c) (fd := f) (q := tsh i)
    d1 d2 () () (cr i) hcr (amount_cell m ρ c (some (.inl i)) 0) (amount_cell m ρ (peer i c) (some (.inr i)) 0) (owed c (3 + i.val + 1)) e5 (W := W)
    (by rw [payload_cell m ρ c (some (.inl i)) 0]; show _ ⊢ srcP m ρ c i; unfold srcP pts; rw [slice_set])
    (by rw [pay_arr m ρ c i, slice_set]; exact Entails.of_eq (pointsTo_congr fun x hx => copy_rows _ _ inb f (outAt m ρ c) hx))) $$ [Hs Hd HO Ht1 Ht2]
  · isplitr; · iapply (inv_of m ρ K (c, some (.inl i))); iexact HR
    isplitr; · iapply (inv_of m ρ K (peer i c, some (.inr i))); iexact HR
    isplitl [Hs]; · rw [slice_set]; iexact Hs
    isplitl [Hd]; · rw [slice_set]; iexact Hd
    isplitl [HO]; · iexact HO
    isplitl [Ht1]; · iexact Ht1
    isplitr; · iapply (reached_of m ρ K (c, some (.inl i))); iexact HR
    isplitl [Ht2]; · iexact Ht2
    iapply (reached_of m ρ K (peer i c, some (.inr i))); iexact HR
  iintro ⟨Hc, HO⟩
  iapply Hk
  iframe HR Hx Htok Hland HbW Hbz Hpeer Hraw Hown Hsrc Hlanded HxT HsP Hc HsC Hrest
  iexists W; iexact HO

/-- A wait for a transfer, at either end: the payload comes, and the semaphore is done with. -/
theorem wait_end (kd : Fin 12 ⊕ Fin 12) (n : ℕ) (hlev : ∀ k : Fin 15, n ≤ k.val → rlev (some (some kd)) < rlev (some (dueKind k)))
    {sem : DmaSem sig} (hS : SemLoc.dma sem = ksem (some kd)) {sp sp' : Space} {s s' : Shape} {e e' : EltTy} {κ' : Idealize.ShloMosaic.Kind}
    {src : Memref sig .tc sp' s' e'} {dst : Memref sig κ' sp s e} {hsrc hdst} {N : ℕ} (hN : kamount (some (some kd)) = N) (hcr : dst.view.dmaCredit = N)
    {α : Type} {Q : α → sProp 𝕄} {k : PUnit → Prog (TpuEff nD τ sig (Elt F) Λ₀ .tc) α} :
    iprop(records m ρ K ∗ owesP (F := F) c n ∗ atPos ER (kcell (c, some kd)) 0 ∅ 0 ∗ cred (tallyAt (kcell (c, some kd)) () N))
      ⊢ iprop((owesP (F := F) c n -∗ kpayload m ρ c 0 (some (some kd)) -∗ semVal (kcell (c, some kd)) 0
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hN
  have hw : ∀ Kk : PUnit → sProp 𝕄, wpE (defs₀ (F := F)) 𝒱₀ (c : Thread nD τ) none Set.univ (.waitDma2 sem src dst hsrc hdst) Kk
      = waitSpec (c : Thread nD τ) Set.univ (ksem (some kd)) (kamount (some (some kd))) Kk := fun Kk => by
    rw [wpE_waitDma2_eq, hS, hcr]
  unfold owesP
  iintro ⟨#HR, ⟨%W, HO⟩, Hat, Hcr⟩ Hk
  iapply (Rounds.wp_wait_rest_token 𝒱₀ ER (Rd m ρ) (c : Thread nD τ) none (κ := K (c, some kd))
      hw (Set.mem_univ _) () (O := owed c n) (W := W) (R := 0) (m := 0) (T := ∅)
      (by rw [expect_xfer m ρ c kd, Nat.zero_add])) $$ [Hcr HO Hat]
  · isplitr; · iapply (inv_of m ρ K (c, some kd)); iexact HR
    isplitl [Hcr]; · iexact Hcr
    isplitl [HO]; · iexact HO
    isplitr
    · iapply (mayWait (F := F) c (ksem (some kd)) n (by rw [role_ksem]; exact hlev)); iapply (lev_of m ρ K); iexact HR
    iexact Hat
  iintro ⟨HO, Hat, -, Hpay⟩
  ihave Hpay := (Entails.of_eq (rest_xfer m ρ c kd)) $$ Hpay
  imod (Rounds.cell_close ER (Rd m ρ) (Set.mem_univ (K (c, some kd))) (fun h => h) (R := 0 + 1) (duties_later m ρ (kcell (c, some kd)))) $$ [Hat] with Hz
  · isplitr; · iapply (inv_of m ρ K (c, some kd)); iexact HR
    iexact Hat
  iapply Hk $$ [HO] Hpay Hz
  iexists _; iexact HO

/-- The wait for the arrival of transfer `i`: its rows hold the result. -/
theorem step_wait_recv {a b r w j : ℕ} (i : Fin 12) (hi : i.val = r) (hj : 2 * j ≤ r)
    (hlev : ∀ k : Fin 15, 3 + b ≤ k.val → rlev (some (some (.inr i))) < rlev (some (dueKind k)))
    {sem : DmaSem sig} (hS : SemLoc.dma sem = ksem (some (.inr i))) {sp sp' : Space} {s s' : Shape} {e e' : EltTy} {κ' : Idealize.ShloMosaic.Kind}
    {src : Memref sig .tc sp' s' e'} {dst : Memref sig κ' sp s e} {hsrc hdst} (hcr : dst.view.dmaCredit = cr i)
    {α : Type} {Q : α → sProp 𝕄} {k : PUnit → Prog (TpuEff nD τ sig (Elt F) Λ₀ .tc) α} :
    St m ρ K c 4 a b r w j ⊢ iprop((St m ρ K c 4 a b (r + 1) w j -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hi
  have hne : ∀ k : Fin 12, k ≠ i → k.val ≠ i.val := fun k hk h => hk (Fin.ext h)
  have e1 : fam (landP m ρ c) (fun k => k.val < i.val + 1 ∧ 2 * j ≤ k.val)
      = iprop(landP m ρ c i ∗ fam (landP m ρ c) (fun k => k.val < i.val ∧ 2 * j ≤ k.val)) :=
    fam_step _ i (by omega) (by omega) fun k hk => by have := hne k hk; omega
  have e2 : fam (rcvW (F := F) c) (fun k => i.val ≤ k.val) = iprop(rcvW (F := F) c i ∗ fam (rcvW (F := F) c) (fun k => i.val + 1 ≤ k.val)) :=
    fam_step _ i (by omega) (by omega) fun k hk => by have := hne k hk; omega
  have e3 : fam (fun k => (semVal (rcvCell c k) 0 : sProp 𝕄)) (fun k => k.val < i.val + 1)
      = iprop(semVal (rcvCell c i) 0 ∗ fam (fun k => (semVal (rcvCell c k) 0 : sProp 𝕄)) (fun k => k.val < i.val)) :=
    fam_step _ i (by omega) (by omega) fun k hk => by have := hne k hk; omega
  unfold St
  rw [e1, e2, e3, show min 4 3 + b = 3 + b by omega]
  iintro ⟨#HR, HO, Hx, Htok, Hland, HbW, Hbz, Hpeer, Hraw, Hown, Hsrc, Hlanded, HxT, HsP, HsC, Hsz, ⟨⟨Hat, Hcr⟩, HrW⟩, Hrz⟩ Hk
  iapply (wait_end m ρ K c (.inr i) (3 + b) hlev hS (N := cr i) rfl hcr) $$ [HO Hat Hcr]
  · iframe HR HO Hat Hcr
  iintro HO Hp Hz
  ihave Hp := (Entails.of_eq (show kpayload m ρ c 0 (some (some (.inr i))) = landP m ρ c i from rfl)) $$ Hp
  iapply Hk
  iframe HR HO Hx Htok Hland HbW Hbz Hpeer Hraw Hown Hsrc Hp Hlanded HxT HsP HsC Hsz HrW Hz Hrz

/-- The wait for the departure of transfer `i`: its source rows come back. -/
theorem step_wait_send {a r w j : ℕ} (i : Fin 12) (hi : i.val = w) (ha : 8 ≤ a) (hj : j = 2)
    {sem : DmaSem sig} (hS : SemLoc.dma sem = ksem (some (.inl i))) {sp sp' : Space} {s s' : Shape} {e e' : EltTy} {κ' : Idealize.ShloMosaic.Kind}
    {src : Memref sig .tc sp' s' e'} {dst : Memref sig κ' sp s e} {hsrc hdst} (hcr : dst.view.dmaCredit = cr i)
    {α : Type} {Q : α → sProp 𝕄} {k : PUnit → Prog (TpuEff nD τ sig (Elt F) Λ₀ .tc) α} :
    St m ρ K c 4 a 12 r w j ⊢ iprop((St m ρ K c 4 a 12 r (w + 1) j -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hi hj
  have hne : ∀ k : Fin 12, k ≠ i → k.val ≠ i.val := fun k hk h => hk (Fin.ext h)
  have e1 : fam (srcP m ρ c) (srcs a 12 (i.val + 1) 2) = iprop(srcP m ρ c i ∗ fam (srcP m ρ c) (srcs a 12 i.val 2)) :=
    fam_step _ i (by dsimp only [srcs]; omega) (by dsimp only [srcs]; omega) fun k hk => by have := hne k hk; dsimp only [srcs]; omega
  have e2 : fam (sndPos (F := F) c) (fun k => i.val ≤ k.val) = iprop(sndPos (F := F) c i ∗ fam (sndPos (F := F) c) (fun k => i.val + 1 ≤ k.val)) :=
    fam_step _ i (by omega) (by omega) fun k hk => by have := hne k hk; omega
  have e3 : fam (fun k => (semVal (sndCell c k) 0 : sProp 𝕄)) (fun k => k.val < i.val + 1)
      = iprop(semVal (sndCell c i) 0 ∗ fam (fun k => (semVal (sndCell c k) 0 : sProp 𝕄)) (fun k => k.val < i.val)) :=
    fam_step _ i (by omega) (by omega) fun k hk => by have := hne k hk; omega
  have e4 : fam (sndCred (F := F) c) (fun k => i.val ≤ k.val ∧ k.val < 12)
      = iprop(sndCred (F := F) c i ∗ fam (sndCred (F := F) c) (fun k => i.val + 1 ≤ k.val ∧ k.val < 12)) :=
    fam_step _ i (by omega) (by omega) fun k hk => by have := hne k hk; omega
  unfold St
  rw [e1, e2, e3, e4]
  iintro ⟨#HR, HO, Hx, Htok, Hland, HbW, Hbz, Hpeer, Hraw, Hown, Hsrc, Hlanded, HxT, ⟨Hat, HsP⟩, ⟨Hcr, HsC⟩, Hsz, Hrest⟩ Hk
  iapply (wait_end m ρ K c (.inl i) (min 4 3 + 12) (fun k hk => absurd k.isLt (by omega)) hS (N := cr i) rfl hcr) $$ [HO Hat Hcr]
  · iframe HR HO Hat Hcr
  iintro HO Hp Hz
  ihave Hp := (Entails.of_eq (show kpayload m ρ c 0 (some (some (.inl i))) = srcP m ρ c i from rfl)) $$ Hp
  iapply Hk
  iframe HR HO Hx Htok Hland HbW Hbz Hpeer Hraw Hown Hp Hsrc Hlanded HxT HsP HsC Hz Hsz Hrest

omit [FloatOps F] in
/-- Two landed pieces of 128 rows are the source of the two transfers that pass them on, each holding half of the share. -/
theorem land_src (f : Fin 2) : iprop(landP m ρ c ⟨2 * f.val, by omega⟩ ∗ landP m ρ c ⟨2 * f.val + 1, by omega⟩)
    = iprop(srcP m ρ c ⟨8 + 2 * f.val, by omega⟩ ∗ srcP m ρ c ⟨9 + 2 * f.val, by omega⟩) := by
  obtain ⟨h1, h2, h3⟩ := fwd_rows c f
  unfold landP srcP pts
  rw [h1, h2, h3]
  have t1 : tlen ⟨2 * f.val, by omega⟩ = 128 := if_pos (by show 2 * f.val < 8; omega)
  have t2 : tlen ⟨2 * f.val + 1, by omega⟩ = 128 := if_pos (by show 2 * f.val + 1 < 8; omega)
  have t3 : tlen ⟨8 + 2 * f.val, by omega⟩ = 256 := if_neg (by show ¬ (8 + 2 * f.val < 8); omega)
  have t4 : tlen ⟨9 + 2 * f.val, by omega⟩ = 256 := if_neg (by show ¬ (9 + 2 * f.val < 8); omega)
  have s3 : tsh ⟨8 + 2 * f.val, by omega⟩ = fullShare.left :=
    (if_neg (by show ¬ (8 + 2 * f.val < 8); omega)).trans (if_pos (by show (8 + 2 * f.val) % 2 = 0; omega))
  have s4 : tsh ⟨9 + 2 * f.val, by omega⟩ = fullShare.right :=
    (if_neg (by show ¬ (9 + 2 * f.val < 8); omega)).trans (if_neg (by show ¬ ((9 + 2 * f.val) % 2 = 0); omega))
  rw [t1, t2, t3, t4, s3, s4]
  generalize lrow c ⟨2 * f.val, by omega⟩ = x
  have hU : (oloc c ↦[rows x 128 ∪ rows (x + 128) 128]{fullShare} outAt m ρ c : sProp 𝕄) ⊣⊢ _ := pointsTo_union (rows_disjoint (by omega))
  have hS : (oloc c ↦[rows x 256]{fullShare} outAt m ρ c : sProp 𝕄) ⊣⊢ _ := pointsTo_share (PosShare.mem_left_op_right fullShare)
  rw [rows_union] at hU
  exact (equiv_iff.mp ⟨hU.2, hU.1⟩).trans (equiv_iff.mp ⟨hS.1, hS.2⟩)

omit [FloatOps F] in
/-- Two landed pieces taken for the source of the two transfers that pass them on, while neither is in flight; and back. -/
theorem step_join {a b r w j : ℕ} (hj : j < 2) (hr : 2 * j + 2 ≤ r) (hb : b ≤ 8 + 2 * j ∨ 10 + 2 * j ≤ w) :
    St m ρ K c 4 a b r w j = St m ρ K c 4 a b r w (j + 1) := by
  obtain ⟨x, hx⟩ : ∃ x : Fin 12, x = ⟨8 + 2 * j, by omega⟩ := ⟨_, rfl⟩
  obtain ⟨y, hy⟩ : ∃ y : Fin 12, y = ⟨9 + 2 * j, by omega⟩ := ⟨_, rfl⟩
  obtain ⟨u, hu⟩ : ∃ u : Fin 12, u = ⟨2 * j, by omega⟩ := ⟨_, rfl⟩
  obtain ⟨v, hv⟩ : ∃ v : Fin 12, v = ⟨2 * j + 1, by omega⟩ := ⟨_, rfl⟩
  have h := land_src m ρ c ⟨j, hj⟩
  rw [← hx, ← hy, ← hu, ← hv] at h
  replace hx : x.val = 8 + 2 * j := congrArg Fin.val hx
  replace hy : y.val = 9 + 2 * j := congrArg Fin.val hy
  replace hu : u.val = 2 * j := congrArg Fin.val hu
  replace hv : v.val = 2 * j + 1 := congrArg Fin.val hv
  have hne : ∀ k l : Fin 12, k ≠ l → k.val ≠ l.val := fun k l hk h => hk (Fin.ext h)
  have e1 : fam (srcP m ρ c) (srcs a b w (j + 1)) = iprop(srcP m ρ c x ∗ fam (srcP m ρ c) (fun i => srcs a b w j i ∨ i.val = 9 + 2 * j)) :=
    fam_step _ x (by dsimp only [srcs]; omega) (by dsimp only [srcs]; omega) fun k hk => by have := hne k x hk; dsimp only [srcs]; omega
  have e2 : fam (srcP m ρ c) (fun i => srcs a b w j i ∨ i.val = 9 + 2 * j) = iprop(srcP m ρ c y ∗ fam (srcP m ρ c) (srcs a b w j)) :=
    fam_step _ y (Or.inr hy) (by dsimp only [srcs]; omega) fun k hk => by have := hne k y hk; dsimp only [srcs]; omega
  have e3 : fam (landP m ρ c) (fun k => k.val < r ∧ 2 * j ≤ k.val)
      = iprop(landP m ρ c u ∗ fam (landP m ρ c) (fun k => k.val < r ∧ 2 * j + 1 ≤ k.val)) :=
    fam_step _ u (by omega) (by omega) fun k hk => by have := hne k u hk; omega
  have e4 : fam (landP m ρ c) (fun k => k.val < r ∧ 2 * j + 1 ≤ k.val)
      = iprop(landP m ρ c v ∗ fam (landP m ρ c) (fun k => k.val < r ∧ 2 * (j + 1) ≤ k.val)) :=
    fam_step _ v (by omega) (by omega) fun k hk => by have := hne k v hk; omega
  have h1 : St m ρ K c 4 a b r w j ⊢ St m ρ K c 4 a b r w (j + 1) := by
    unfold St
    rw [e1, e2, e3, e4]
    iintro ⟨HR, HO, Hx, Htok, Hland, HbW, Hbz, Hpeer, Hraw, Hown, Hsrc, ⟨H1, H2, Hlanded⟩, Hrest⟩
    ihave H := (Entails.of_eq h) $$ [H1 H2]
    · isplitl [H1]; · iexact H1
      iexact H2
    icases H with ⟨H1, H2⟩
    iframe HR HO Hx Htok Hland HbW Hbz Hpeer Hraw Hown H1 H2 Hsrc Hlanded Hrest
  have h2 : St m ρ K c 4 a b r w (j + 1) ⊢ St m ρ K c 4 a b r w j := by
    unfold St
    rw [e1, e2, e3, e4]
    iintro ⟨HR, HO, Hx, Htok, Hland, HbW, Hbz, Hpeer, Hraw, Hown, ⟨H1, H2, Hsrc⟩, Hlanded, Hrest⟩
    ihave H := (Entails.of_eq h.symm) $$ [H1 H2]
    · isplitl [H1]; · iexact H1
      iexact H2
    icases H with ⟨H1, H2⟩
    iframe HR HO Hx Htok Hland HbW Hbz Hpeer Hraw Hown Hsrc H1 H2 Hlanded Hrest
  exact equiv_iff.mp ⟨h1, h2⟩

end Steps

end Cert.Gather

end
-- ==== Proof.Body.lean ====
/-
# The run of one device

The program of a device, part by part: each part takes the state from one set of counts to the next.
-/
module

public import proofs.«01_k».proof.Proof.State
public import Idealize.ShloMosaic.Lib.Pipeline.Value

@[expose] public section

set_option maxRecDepth 4096

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ) (c : Dev nD)

omit [FloatOps F] in
/-- A step followed by the rest. -/
theorem chain {P P' A B : sProp 𝕄} (hs : P ⊢ iprop((P' -∗ A) -∗ B)) (h : P' ⊢ A) : P ⊢ B := by
  iintro H
  iapply hs $$ H
  iintro H
  iapply h; iexact H

omit [FloatOps F] in
/-- The end of a part. -/
theorem finish {α : Type} {v : α} {P : sProp 𝕄} {Q : α → sProp 𝕄} (h : P ⊢ Q v) :
    P ⊢ wp frame (wpE (defs₀ (F := F)) 𝒱₀ (c : Thread nD τ) none) Set.univ (.ret v) Q := h.trans fupd_intro

/-- What a transfer of 128 rows counts, wherever the rows are, -/
theorem cr_short (i : Fin 12) (h : i.val < 8) (off : Fin 2 → ℕ) (inb) :
    (oM.slice (Rect.unit (s := S4096x512) off S128x512.size inb) (fun _ => rfl)).view.dmaCredit = cr i := (if_pos h).symm
/-- and one of 256 rows. -/
theorem cr_long (i : Fin 12) (h : ¬ i.val < 8) (off : Fin 2 → ℕ) (inb) :
    (oM.slice (Rect.unit (s := S4096x512) off S256x512.size inb) (fun _ => rfl)).view.dmaCredit = cr i := (if_neg h).symm
/-- The sizes of the rectangles they move. -/
theorem sz_short (i : Fin 12) (h : i.val < 8) : S128x512.size = ![tlen i, 512] := by rw [show tlen i = 128 from if_pos h]
theorem sz_long (i : Fin 12) (h : ¬ i.val < 8) : S256x512.size = ![tlen i, 512] := by rw [show tlen i = 256 from if_neg h]

/-- Converting one of the first eight pieces: read it, read its place, store it there. -/
theorem convert_src {q a b r w j : ℕ} (p : Fin 16) (hp : p.val = a) (h8 : a < 8) (hb : b ≤ a) {ox oo : Fin 2 → ℕ} (hox : ox = ![xrow c p, 0])
    (hoo : oo = ![prow c p, 0]) {inx ino} {pay : (S128x512.Idx → Elt F .bf16) → S128x512.Idx → Elt F .bf16} (hpay : ∀ v, pay v = v) {hl hl' hx hm}
    {α : Type} {Q : α → sProp 𝕄} {k : PUnit → Prog (TpuEff nD τ sig (Elt F) Λ₀ .tc) α} :
    St m ρ K c q a b r w j ⊢ iprop((St m ρ K c q (a + 1) b r w j -∗ wp frame (wpE (defs₀ (F := F)) 𝒱₀ (c : Thread nD τ) none) Set.univ (k ⟨⟩) Q)
      -∗ wp frame (wpE (defs₀ (F := F)) 𝒱₀ (c : Thread nD τ) none) Set.univ
          (.op (.load xM (Rect.unit (s := S2048x512) ox S128x512.size inx).toLoadRect hl) fun v =>
            .op (.load oM (Rect.unit (s := S4096x512) oo S128x512.size ino).toLoadRect hl') fun _ =>
            .op (.store oM (Rect.unit (s := S4096x512) oo S128x512.size ino) (pay v) Finset.univ hx hm) k) Q) := by
  iintro H Hk
  iapply (step_loadx m ρ K c p hox) $$ H
  iintro H
  iapply (step_loado m ρ K c p hp hoo) $$ H
  iintro %u H
  iapply (step_store_src m ρ K c p hp h8 hb hoo (hpay _)) $$ H
  iexact Hk

/-- Putting one of the last eight pieces, read before, in its place. -/
theorem put_keep {q a b r w j : ℕ} (p : Fin 16) (hp : p.val = a) (h8 : 8 ≤ a) {oo : Fin 2 → ℕ} (hoo : oo = ![prow c p, 0]) {ino}
    {v : S128x512.Idx → Elt F .bf16} (hv : v = xpiece m ρ c p) {hl' hx hm}
    {α : Type} {Q : α → sProp 𝕄} {k : PUnit → Prog (TpuEff nD τ sig (Elt F) Λ₀ .tc) α} :
    St m ρ K c q a b r w j ⊢ iprop((St m ρ K c q (a + 1) b r w j -∗ wp frame (wpE (defs₀ (F := F)) 𝒱₀ (c : Thread nD τ) none) Set.univ (k ⟨⟩) Q)
      -∗ wp frame (wpE (defs₀ (F := F)) 𝒱₀ (c : Thread nD τ) none) Set.univ
          (.op (.load oM (Rect.unit (s := S4096x512) oo S128x512.size ino).toLoadRect hl') fun _ =>
            .op (.store oM (Rect.unit (s := S4096x512) oo S128x512.size ino) v Finset.univ hx hm) k) Q) := by
  iintro H Hk
  iapply (step_loado m ρ K c p hp hoo) $$ H
  iintro %u H
  iapply (step_store_keep m ρ K c p hp h8 hoo hv) $$ H
  iexact Hk

/-- Converting one of the last eight pieces. -/
theorem convert_keep {q a b r w j : ℕ} (p : Fin 16) (hp : p.val = a) (h8 : 8 ≤ a) {ox oo : Fin 2 → ℕ} (hox : ox = ![xrow c p, 0])
    (hoo : oo = ![prow c p, 0]) {inx ino} {pay : (S128x512.Idx → Elt F .bf16) → S128x512.Idx → Elt F .bf16} (hpay : ∀ v, pay v = v) {hl hl' hx hm}
    {α : Type} {Q : α → sProp 𝕄} {k : PUnit → Prog (TpuEff nD τ sig (Elt F) Λ₀ .tc) α} :
    St m ρ K c q a b r w j ⊢ iprop((St m ρ K c q (a + 1) b r w j -∗ wp frame (wpE (defs₀ (F := F)) 𝒱₀ (c : Thread nD τ) none) Set.univ (k ⟨⟩) Q)
      -∗ wp frame (wpE (defs₀ (F := F)) 𝒱₀ (c : Thread nD τ) none) Set.univ
          (.op (.load xM (Rect.unit (s := S2048x512) ox S128x512.size inx).toLoadRect hl) fun v =>
            .op (.load oM (Rect.unit (s := S4096x512) oo S128x512.size ino).toLoadRect hl') fun _ =>
            .op (.store oM (Rect.unit (s := S4096x512) oo S128x512.size ino) (pay v) Finset.univ hx hm) k) Q) := by
  iintro H Hk
  iapply (step_loadx m ρ K c p hox) $$ H
  iintro H
  iapply (put_keep m ρ K c p hp h8 hoo (hpay _)) $$ H
  iexact Hk

section Parts

variable (hx : xM.IsWhole) (ho : oM.IsWhole)

/-- The handshake with the three neighbours, the first piece converted meanwhile. -/
theorem part2 (v2 v5 v8 v9 v10 v11 v13 v24 : BitVec 32) :
    St m ρ K c 0 0 0 0 0 0 ⊢ wp frame (wpE (defs₀ (F := F)) 𝒱₀ (c : Thread nD τ) none) Set.univ
      (k0_part2 xM hx oM ho cc0_scratch0 cc0_scratch1 cc0_scratch2 cc0_scratch3 cc0_scratch4 cc0_scratch5 c v2 v5 v8 v9 v10 v11 v13 v24 (SemArray.scalar (sig.barrier 0 rfl)))
      (fun _ => St m ρ K c 4 1 0 0 0 0) := by
  rw [k0_part2_eq_skeleton]; unfold k0_part2_skel
  simp only [semSignalWord, semWaitWord, Prog.lift, Prog.bind_op, Prog.bind_ret, Prog.pure_eq_ret]
  refine chain (step_signal m ρ K c 0 rfl (dev1_eq c) rfl) ?_
  refine chain (step_signal m ρ K c 1 rfl (dev2_eq c) rfl) ?_
  refine chain (step_signal m ρ K c 2 rfl (dev3_eq c) rfl) ?_
  refine chain (convert_src m ρ K c 0 rfl (by decide) (by decide) (off1_eq c 0) (off2_eq c 0) (fun v => shapeCast_self v _)) ?_
  refine chain (step_barwait m ρ K c rfl) ?_
  exact fupd_intro

/-- The first two transfers, the next two pieces converted meanwhile. -/
theorem part3 (v2 v8 v9 v13 v24 : BitVec 32) :
    St m ρ K c 4 1 0 0 0 0 ⊢ wp frame (wpE (defs₀ (F := F)) 𝒱₀ (c : Thread nD τ) none) Set.univ
      (k0_part3 xM hx oM ho cc0_scratch0 cc0_scratch1 cc0_scratch2 cc0_scratch3 cc0_scratch4 cc0_scratch5 c v2 v8 v9 v13 v24)
      (fun _ => St m ρ K c 4 3 2 0 0 0) := by
  rw [k0_part3_eq_skeleton]; unfold k0_part3_skel
  simp only [Prog.lift, Prog.bind_op, Prog.bind_ret, Prog.pure_eq_ret]
  refine chain (step_send m ρ K c 0 rfl (by decide) (by decide) (dev4_eq c) (off3_eq c 0) (sz_short 0 (by decide)) rfl rfl (cr_short 0 (by decide) _ _)) ?_
  refine chain (convert_src m ρ K c 1 rfl (by decide) (by decide) (off1_eq c 1) (off2_eq c 1) (fun v => shapeCast_self v _)) ?_
  refine chain (step_send m ρ K c 1 rfl (by decide) (by decide) (dev5_eq c) (off3_eq c 1) (sz_short 1 (by decide)) rfl rfl (cr_short 1 (by decide) _ _)) ?_
  refine chain (convert_src m ρ K c 2 rfl (by decide) (by decide) (off1_eq c 2) (off2_eq c 2) (fun v => shapeCast_self v _)) ?_
  exact fupd_intro

/-- The third transfer, and a piece. -/
theorem part4 (v2 v8 v9 v13 v24 c512 : BitVec 32) :
    St m ρ K c 4 3 2 0 0 0 ⊢ wp frame (wpE (defs₀ (F := F)) 𝒱₀ (c : Thread nD τ) none) Set.univ
      (k0_part4 xM hx oM ho cc0_scratch0 cc0_scratch1 cc0_scratch2 cc0_scratch3 cc0_scratch4 cc0_scratch5 c v2 v8 v9 v13 v24 c512)
      (fun _ => St m ρ K c 4 4 3 0 0 0) := by
  rw [k0_part4_eq_skeleton]; unfold k0_part4_skel
  simp only [Prog.lift, Prog.bind_op, Prog.bind_ret, Prog.pure_eq_ret]
  refine chain (step_send m ρ K c 2 rfl (by decide) (by decide) (dev6_eq c) (off3_eq c 2) (sz_short 2 (by decide)) rfl rfl (cr_short 2 (by decide) _ _)) ?_
  refine chain (convert_src m ρ K c 3 rfl (by decide) (by decide) (off1_eq c 3) (off2_eq c 3) (fun v => shapeCast_self v _)) ?_
  exact fupd_intro

/-- Transfers four and five, and two pieces. -/
theorem part5 (v2 v8 v9 v17 v24 : BitVec 32) :
    St m ρ K c 4 4 3 0 0 0 ⊢ wp frame (wpE (defs₀ (F := F)) 𝒱₀ (c : Thread nD τ) none) Set.univ
      (k0_part5 xM hx oM ho cc0_scratch0 cc0_scratch1 cc0_scratch2 cc0_scratch3 cc0_scratch4 cc0_scratch5 c v2 v8 v9 v17 v24)
      (fun _ => St m ρ K c 4 6 5 0 0 0) := by
  rw [k0_part5_eq_skeleton]; unfold k0_part5_skel
  simp only [Prog.lift, Prog.bind_op, Prog.bind_ret, Prog.pure_eq_ret]
  refine chain (step_send m ρ K c 3 rfl (by decide) (by decide) (dev7_eq c) (off3_eq c 3) (sz_short 3 (by decide)) rfl rfl (cr_short 3 (by decide) _ _)) ?_
  refine chain (convert_src m ρ K c 4 rfl (by decide) (by decide) (off4_eq c 0) (off5_eq c 0) (fun v => shapeCast_self v _)) ?_
  refine chain (step_send m ρ K c 4 rfl (by decide) (by decide) (dev8_eq c) (off6_eq c 0) (sz_short 4 (by decide)) rfl rfl (cr_short 4 (by decide) _ _)) ?_
  refine chain (convert_src m ρ K c 5 rfl (by decide) (by decide) (off4_eq c 1) (off5_eq c 1) (fun v => shapeCast_self v _)) ?_
  exact fupd_intro

/-- The sixth transfer, and a piece. -/
theorem part6 (v2 v8 v9 v17 v24 v170 c128 : BitVec 32) :
    St m ρ K c 4 6 5 0 0 0 ⊢ wp frame (wpE (defs₀ (F := F)) 𝒱₀ (c : Thread nD τ) none) Set.univ
      (k0_part6 xM hx oM ho cc0_scratch0 cc0_scratch1 cc0_scratch2 cc0_scratch3 cc0_scratch4 cc0_scratch5 c v2 v8 v9 v17 v24 v170 c128)
      (fun _ => St m ρ K c 4 7 6 0 0 0) := by
  rw [k0_part6_eq_skeleton]; unfold k0_part6_skel
  simp only [Prog.lift, Prog.bind_op, Prog.bind_ret, Prog.pure_eq_ret]
  refine chain (step_send m ρ K c 5 rfl (by decide) (by decide) (dev9_eq c) (off6_eq c 1) (sz_short 5 (by decide)) rfl rfl (cr_short 5 (by decide) _ _)) ?_
  refine chain (convert_src m ρ K c 6 rfl (by decide) (by decide) (off4_eq c 2) (off5_eq c 2) (fun v => shapeCast_self v _)) ?_
  exact fupd_intro

/-- The last two transfers across `y`, a piece between them. -/
theorem part7 (v2 v8 v9 v13 v17 v24 v26 : BitVec 32) :
    St m ρ K c 4 7 6 0 0 0 ⊢ wp frame (wpE (defs₀ (F := F)) 𝒱₀ (c : Thread nD τ) none) Set.univ
      (k0_part7 xM hx oM ho cc0_scratch0 cc0_scratch1 cc0_scratch2 cc0_scratch3 cc0_scratch4 cc0_scratch5 c v2 v8 v9 v13 v17 v24 v26)
      (fun _ => St m ρ K c 4 8 8 0 0 0) := by
  rw [k0_part7_eq_skeleton]; unfold k0_part7_skel
  simp only [Prog.lift, Prog.bind_op, Prog.bind_ret, Prog.pure_eq_ret]
  refine chain (step_send m ρ K c 6 rfl (by decide) (by decide) (dev10_eq c) (off6_eq c 2) (sz_short 6 (by decide)) rfl rfl (cr_short 6 (by decide) _ _)) ?_
  refine chain (convert_src m ρ K c 7 rfl (by decide) (by decide) (off4_eq c 3) (off5_eq c 3) (fun v => shapeCast_self v _)) ?_
  refine chain (step_send m ρ K c 7 rfl (by decide) (by decide) (dev11_eq c) (off6_eq c 3) (sz_short 7 (by decide)) rfl rfl (cr_short 7 (by decide) _ _)) ?_
  exact fupd_intro

/-- The first two arrivals, and their rows passed on across `x`, -/
theorem part8 (v2 v5 v8 v9 v10 v13 v26 : BitVec 32) :
    St m ρ K c 4 8 8 0 0 0 ⊢ wp frame (wpE (defs₀ (F := F)) 𝒱₀ (c : Thread nD τ) none) Set.univ
      (k0_part8 xM hx oM ho cc0_scratch0 cc0_scratch1 cc0_scratch2 cc0_scratch3 cc0_scratch4 cc0_scratch5 c v2 v5 v8 v9 v10 v13 v26)
      (fun _ => St m ρ K c 4 8 9 2 0 1) := by
  rw [k0_part8_eq_skeleton]; unfold k0_part8_skel
  simp only [Prog.lift, Prog.bind_op, Prog.bind_ret, Prog.pure_eq_ret]
  refine chain (step_wait_recv m ρ K c 0 rfl (by decide) (by decide) rfl (cr_short 0 (by decide) _ _)) ?_
  refine chain (step_wait_recv m ρ K c 1 rfl (by decide) (by decide) rfl (cr_short 1 (by decide) _ _)) ?_
  rw [step_join m ρ K c (j := 0) (by decide) (by decide) (by decide)]
  refine chain (step_send m ρ K c 8 rfl (by decide) (by decide) (dev12_eq c) (off8x_eq c 0) (sz_long 8 (by decide)) rfl rfl (cr_long 8 (by decide) _ _)) ?_
  exact fupd_intro

/-- and across `z`; the third arrival. -/
theorem part9 (v2 v5 v8 v9 v11 v13 v26 v272 : BitVec 32) :
    St m ρ K c 4 8 9 2 0 1 ⊢ wp frame (wpE (defs₀ (F := F)) 𝒱₀ (c : Thread nD τ) none) Set.univ
      (k0_part9 xM hx oM ho cc0_scratch0 cc0_scratch1 cc0_scratch2 cc0_scratch3 cc0_scratch4 cc0_scratch5 c v2 v5 v8 v9 v11 v13 v26 v272)
      (fun _ => St m ρ K c 4 8 10 3 0 1) := by
  rw [k0_part9_eq_skeleton]; unfold k0_part9_skel
  simp only [Prog.lift, Prog.bind_op, Prog.bind_ret, Prog.pure_eq_ret]
  refine chain (step_send m ρ K c 9 rfl (by decide) (by decide) (dev13_eq c) (off8z_eq c 0) (sz_long 9 (by decide)) rfl rfl (cr_long 9 (by decide) _ _)) ?_
  refine chain (step_wait_recv m ρ K c 2 rfl (by decide) (by decide) rfl (cr_short 2 (by decide) _ _)) ?_
  exact fupd_intro

/-- The fourth arrival, and those rows passed on; the ninth piece is read. -/
theorem part10 (v2 v5 v8 v10 v11 v13 v20 v24 v26 : BitVec 32) :
    St m ρ K c 4 8 10 3 0 1 ⊢ wp frame (wpE (defs₀ (F := F)) 𝒱₀ (c : Thread nD τ) none) Set.univ
      (k0_part10 xM hx oM ho cc0_scratch0 cc0_scratch1 cc0_scratch2 cc0_scratch3 cc0_scratch4 cc0_scratch5 c v2 v5 v8 v10 v11 v13 v20 v24 v26)
      (fun v => iprop(⌜v = xpiece m ρ c 8⌝ ∗ St m ρ K c 4 8 12 4 0 2)) := by
  rw [k0_part10_eq_skeleton]; unfold k0_part10_skel
  simp only [Prog.lift, Prog.bind_op, Prog.bind_ret, Prog.pure_eq_ret]
  refine chain (step_wait_recv m ρ K c 3 rfl (by decide) (by decide) rfl (cr_short 3 (by decide) _ _)) ?_
  rw [step_join m ρ K c (j := 1) (by decide) (by decide) (by decide)]
  refine chain (step_send m ρ K c 10 rfl (by decide) (by decide) (dev14_eq c) (off8x_eq c 1) (sz_long 10 (by decide)) rfl rfl (cr_long 10 (by decide) _ _)) ?_
  refine chain (step_send m ρ K c 11 rfl (by decide) (by decide) (dev15_eq c) (off8z_eq c 1) (sz_long 11 (by decide)) rfl rfl (cr_long 11 (by decide) _ _)) ?_
  refine chain (step_loadx m ρ K c 8 (off9_eq c 0)) ?_
  refine finish c ?_
  iintro H
  isplitr; · ipureintro; exact shapeCast_self _ _
  iexact H

/-- Pieces nine to thirteen. -/
theorem part11 (v20 v23 v24 : BitVec 32) :
    St m ρ K c 4 8 12 4 0 2 ⊢ wp frame (wpE (defs₀ (F := F)) 𝒱₀ (c : Thread nD τ) none) Set.univ
      (k0_part11 xM hx oM ho cc0_scratch0 cc0_scratch1 cc0_scratch2 cc0_scratch3 cc0_scratch4 cc0_scratch5 c v20 v23 v24 (xpiece m ρ c 8))
      (fun _ => St m ρ K c 4 13 12 4 0 2) := by
  rw [k0_part11_eq_skeleton]; unfold k0_part11_skel
  simp only [Prog.lift, Prog.bind_op, Prog.bind_ret, Prog.pure_eq_ret]
  refine chain (put_keep m ρ K c 8 rfl (by decide) (off10_eq c 0) rfl) ?_
  refine chain (convert_keep m ρ K c 9 rfl (by decide) (off9_eq c 1) (off10_eq c 1) (fun v => shapeCast_self v _)) ?_
  refine chain (convert_keep m ρ K c 10 rfl (by decide) (off9_eq c 2) (off10_eq c 2) (fun v => shapeCast_self v _)) ?_
  refine chain (convert_keep m ρ K c 11 rfl (by decide) (off9_eq c 3) (off10_eq c 3) (fun v => shapeCast_self v _)) ?_
  refine chain (convert_keep m ρ K c 12 rfl (by decide) (off11_eq c 0) (off12_eq c 0) (fun v => shapeCast_self v _)) ?_
  exact fupd_intro

/-- The last three pieces; the fifth arrival. -/
theorem part12 (v2 v8 v9 v17 v23 v24 v26 v377 : BitVec 32) :
    St m ρ K c 4 13 12 4 0 2 ⊢ wp frame (wpE (defs₀ (F := F)) 𝒱₀ (c : Thread nD τ) none) Set.univ
      (k0_part12 xM hx oM ho cc0_scratch0 cc0_scratch1 cc0_scratch2 cc0_scratch3 cc0_scratch4 cc0_scratch5 c v2 v8 v9 v17 v23 v24 v26 v377)
      (fun _ => St m ρ K c 4 16 12 5 0 2) := by
  rw [k0_part12_eq_skeleton]; unfold k0_part12_skel
  simp only [Prog.lift, Prog.bind_op, Prog.bind_ret, Prog.pure_eq_ret]
  refine chain (convert_keep m ρ K c 13 rfl (by decide) (off11_eq c 1) (off12_eq c 1) (fun v => shapeCast_self v _)) ?_
  refine chain (convert_keep m ρ K c 14 rfl (by decide) (off11_eq c 2) (off12_eq c 2) (fun v => shapeCast_self v _)) ?_
  refine chain (convert_keep m ρ K c 15 rfl (by decide) (off11_eq c 3) (off12_eq c 3) (fun v => shapeCast_self v _)) ?_
  refine chain (step_wait_recv m ρ K c 4 rfl (by decide) (by decide) rfl (cr_short 4 (by decide) _ _)) ?_
  exact fupd_intro

/-- Two arrivals, -/
theorem part13 (v2 v8 v9 v17 v26 v413 : BitVec 32) :
    St m ρ K c 4 16 12 5 0 2 ⊢ wp frame (wpE (defs₀ (F := F)) 𝒱₀ (c : Thread nD τ) none) Set.univ
      (k0_part13 xM hx oM ho cc0_scratch0 cc0_scratch1 cc0_scratch2 cc0_scratch3 cc0_scratch4 cc0_scratch5 c v2 v8 v9 v17 v26 v413)
      (fun _ => St m ρ K c 4 16 12 7 0 2) := by
  rw [k0_part13_eq_skeleton]; unfold k0_part13_skel
  simp only [Prog.lift, Prog.bind_op, Prog.bind_ret, Prog.pure_eq_ret]
  refine chain (step_wait_recv m ρ K c 5 rfl (by decide) (by decide) rfl (cr_short 5 (by decide) _ _)) ?_
  refine chain (step_wait_recv m ρ K c 6 rfl (by decide) (by decide) rfl (cr_short 6 (by decide) _ _)) ?_
  exact fupd_intro

/-- and three, -/
theorem part14 (v2 v5 v8 v10 v11 v20 v23 v26 v445 : BitVec 32) :
    St m ρ K c 4 16 12 7 0 2 ⊢ wp frame (wpE (defs₀ (F := F)) 𝒱₀ (c : Thread nD τ) none) Set.univ
      (k0_part14 xM hx oM ho cc0_scratch0 cc0_scratch1 cc0_scratch2 cc0_scratch3 cc0_scratch4 cc0_scratch5 c v2 v5 v8 v10 v11 v20 v23 v26 v445)
      (fun _ => St m ρ K c 4 16 12 10 0 2) := by
  rw [k0_part14_eq_skeleton]; unfold k0_part14_skel
  simp only [Prog.lift, Prog.bind_op, Prog.bind_ret, Prog.pure_eq_ret]
  refine chain (step_wait_recv m ρ K c 7 rfl (by decide) (by decide) rfl (cr_short 7 (by decide) _ _)) ?_
  refine chain (step_wait_recv m ρ K c 8 rfl (by decide) (by decide) rfl (cr_long 8 (by decide) _ _)) ?_
  refine chain (step_wait_recv m ρ K c 9 rfl (by decide) (by decide) rfl (cr_long 9 (by decide) _ _)) ?_
  exact fupd_intro

/-- and the last two; the first departure. -/
theorem part15 (v2 v5 v8 v10 v11 v23 v26 v478 : BitVec 32) :
    St m ρ K c 4 16 12 10 0 2 ⊢ wp frame (wpE (defs₀ (F := F)) 𝒱₀ (c : Thread nD τ) none) Set.univ
      (k0_part15 xM hx oM ho cc0_scratch0 cc0_scratch1 cc0_scratch2 cc0_scratch3 cc0_scratch4 cc0_scratch5 c v2 v5 v8 v10 v11 v23 v26 v478)
      (fun _ => St m ρ K c 4 16 12 12 1 2) := by
  rw [k0_part15_eq_skeleton]; unfold k0_part15_skel
  simp only [Prog.lift, Prog.bind_op, Prog.bind_ret, Prog.pure_eq_ret]
  refine chain (step_wait_recv m ρ K c 10 rfl (by decide) (by decide) rfl (cr_long 10 (by decide) _ _)) ?_
  refine chain (step_wait_recv m ρ K c 11 rfl (by decide) (by decide) rfl (cr_long 11 (by decide) _ _)) ?_
  refine chain (step_wait_send m ρ K c 0 rfl (by decide) rfl rfl (cr_short 0 (by decide) _ _)) ?_
  exact fupd_intro

/-- Six departures. -/
theorem part16 :
    St m ρ K c 4 16 12 12 1 2 ⊢ wp frame (wpE (defs₀ (F := F)) 𝒱₀ (c : Thread nD τ) none) Set.univ
      (k0_part16 xM hx oM ho cc0_scratch0 cc0_scratch1 cc0_scratch2 cc0_scratch3 cc0_scratch4 cc0_scratch5 c)
      (fun _ => St m ρ K c 4 16 12 12 7 2) := by
  rw [k0_part16_eq_skeleton]; unfold k0_part16_skel
  simp only [Prog.lift, Prog.bind_op, Prog.bind_ret, Prog.pure_eq_ret]
  refine chain (step_wait_send m ρ K c 1 rfl (by decide) rfl rfl (cr_short 1 (by decide) _ _)) ?_
  refine chain (step_wait_send m ρ K c 2 rfl (by decide) rfl rfl (cr_short 2 (by decide) _ _)) ?_
  refine chain (step_wait_send m ρ K c 3 rfl (by decide) rfl rfl (cr_short 3 (by decide) _ _)) ?_
  refine chain (step_wait_send m ρ K c 4 rfl (by decide) rfl rfl (cr_short 4 (by decide) _ _)) ?_
  refine chain (step_wait_send m ρ K c 5 rfl (by decide) rfl rfl (cr_short 5 (by decide) _ _)) ?_
  refine chain (step_wait_send m ρ K c 6 rfl (by decide) rfl rfl (cr_short 6 (by decide) _ _)) ?_
  exact fupd_intro

omit [FloatOps F] in
/-- A part followed by the rest. -/
theorem seq {α β : Type} {P P' : sProp 𝕄} {p : Prog (TpuEff nD τ sig (Elt F) Λ₀ .tc) α} {k : α → Prog (TpuEff nD τ sig (Elt F) Λ₀ .tc) β} {Q : β → sProp 𝕄}
    (h : P ⊢ wp frame (wpE (defs₀ (F := F)) 𝒱₀ (c : Thread nD τ) none) Set.univ p (fun _ => P'))
    (h' : ∀ v, P' ⊢ wp frame (wpE (defs₀ (F := F)) 𝒱₀ (c : Thread nD τ) none) Set.univ (k v) Q) :
    P ⊢ wp frame (wpE (defs₀ (F := F)) 𝒱₀ (c : Thread nD τ) none) Set.univ (p >>= k) Q := by
  rw [wp_bind]
  exact h.trans (wp_mono _ _ _ h')

/-- The parts one after the other, to the last departure but one. -/
theorem part17 :
    St m ρ K c 0 0 0 0 0 0 ⊢ wp frame (wpE (defs₀ (F := F)) 𝒱₀ (c : Thread nD τ) none) Set.univ (k0_part17 xM hx oM ho cc0_scratch0 cc0_scratch1 cc0_scratch2 cc0_scratch3 cc0_scratch4 cc0_scratch5)
      (fun v => iprop(⌜v = c⌝ ∗ St m ρ K c 4 16 12 12 11 2)) := by
  rw [k0_part17_eq_skeleton]; unfold k0_part17_skel
  rw [k0_part1_eq_skeleton]; unfold k0_part1_skel
  simp only [Prog.lift, Prog.bind_op, Prog.bind_ret, Prog.pure_eq_ret, wp_deviceId]
  refine seq c (part2 m ρ K c hx ho _ _ _ _ _ _ _ _) fun _ => ?_
  refine seq c (part3 m ρ K c hx ho _ _ _ _ _) fun _ => ?_
  refine seq c (part4 m ρ K c hx ho _ _ _ _ _ _) fun _ => ?_
  refine seq c (part5 m ρ K c hx ho _ _ _ _ _) fun _ => ?_
  refine seq c (part6 m ρ K c hx ho _ _ _ _ _ _ _) fun _ => ?_
  refine seq c (part7 m ρ K c hx ho _ _ _ _ _ _ _) fun _ => ?_
  refine seq c (part8 m ρ K c hx ho _ _ _ _ _ _ _) fun _ => ?_
  refine seq c (part9 m ρ K c hx ho _ _ _ _ _ _ _ _) fun _ => ?_
  rw [wp_bind]
  refine (part10 m ρ K c hx ho _ _ _ _ _ _ _ _ _).trans (wp_mono _ _ _ fun v => ?_)
  iintro ⟨%hv, H⟩
  subst hv
  iapply (show St m ρ K c 4 8 12 4 0 2 ⊢ _ from ?_) $$ H
  refine seq c (part11 m ρ K c hx ho _ _ _) fun _ => ?_
  refine seq c (part12 m ρ K c hx ho _ _ _ _ _ _ _ _) fun _ => ?_
  refine seq c (part13 m ρ K c hx ho _ _ _ _ _ _) fun _ => ?_
  refine seq c (part14 m ρ K c hx ho _ _ _ _ _ _ _ _ _) fun _ => ?_
  refine seq c (part15 m ρ K c hx ho _ _ _ _ _ _ _ _) fun _ => ?_
  refine seq c (part16 m ρ K c hx ho) fun _ => ?_
  refine chain (step_wait_send m ρ K c 7 rfl (by decide) rfl rfl (cr_short 7 (by decide) _ _)) ?_
  refine chain (step_wait_send m ρ K c 8 rfl (by decide) rfl rfl (cr_long 8 (by decide) _ _)) ?_
  refine chain (step_wait_send m ρ K c 9 rfl (by decide) rfl rfl (cr_long 9 (by decide) _ _)) ?_
  refine chain (step_wait_send m ρ K c 10 rfl (by decide) rfl rfl (cr_long 10 (by decide) _ _)) ?_
  refine finish c ?_
  iintro H
  isplitr; · ipureintro; rfl
  iexact H

/-- The whole program of a device. -/
theorem body_run :
    St m ρ K c 0 0 0 0 0 0 ⊢ wp frame (wpE (defs₀ (F := F)) 𝒱₀ (c : Thread nD τ) none) Set.univ (cc0_body xM hx oM ho cc0_scratch0 cc0_scratch1 cc0_scratch2 cc0_scratch3 cc0_scratch4 cc0_scratch5)
      (fun _ => St m ρ K c 4 16 12 12 12 2) := by
  rw [cc0_body_eq_skeleton]; unfold cc0_body_skel
  rw [wp_bind]
  refine (part17 m ρ K c hx ho).trans (wp_mono _ _ _ fun v => ?_)
  iintro ⟨%hv, H⟩
  subst hv
  simp only [Prog.lift, Prog.bind_op, Prog.bind_ret, Prog.pure_eq_ret]
  iapply (show St m ρ K v 4 16 12 12 11 2 ⊢ _ from ?_) $$ H
  refine chain (step_wait_send m ρ K v 11 rfl (by decide) rfl rfl (cr_long 11 (by decide) _ _)) ?_
  exact fupd_intro

end Parts

end Cert.Gather

end
-- ==== Proof.Ends.lean ====
/-
# The two ends of a device's run

What a device needs to begin, and what it is left with: the staged argument as it was, and the whole result in place.
-/
module

public import proofs.«01_k».proof.Proof.State
public import Idealize.ShloMosaic.Lib.Ring

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Kind → ℕ) (c : Dev nD)

omit [FloatOps F] in
/-- The result, held whole, is its twenty-eight pieces. -/
theorem out_pieces (f : (cc0_stg1_0 : Ref sig .tc).ty.Contents (Elt F)) :
    (oloc c ↦{fullShare} f : sProp 𝕄)
      = iprop((bigSep Finset.univ fun p : Fin 16 => pts (F := F) c (prow c p) 128 fullShare f)
          ∗ bigSep Finset.univ fun i : Fin 12 => pts (F := F) c (lrow c i) (tlen i) fullShare f) := by
  have h : (oloc c ↦{fullShare} f : sProp 𝕄) = bigSep Finset.univ fun k => oloc c ↦[kset c k]{fullShare} f := by
    refine Ring.pointsTo_blocks (ℓ := oloc c) (kset c) ?_ ?_ f
    · exact fun k k' h => kset_disjoint c k k' h
    · exact Finset.eq_univ_iff_forall.mpr fun i => (Finset.eq_univ_iff_forall.mp (kset_cover c)) i
  rw [h, bigSep_univ_sum]
  rfl

omit [FloatOps F] in
/-- Whatever it holds, it can be given out piece by piece. -/
theorem out_raw (f : (cc0_stg1_0 : Ref sig .tc).ty.Contents (Elt F)) :
    (oloc c ↦{fullShare} f : sProp 𝕄) ⊢ iprop(bigSep Finset.univ (ownRaw (F := F) c) ∗ bigSep Finset.univ (landRaw (F := F) c)) := by
  rw [out_pieces]
  have h1 : (bigSep Finset.univ fun p : Fin 16 => pts (F := F) c (prow c p) 128 fullShare f) ⊢ bigSep Finset.univ (ownRaw (F := F) c) :=
    bigSep_mono fun p _ => by
      show (pts (F := F) c (prow c p) 128 fullShare f) ⊢ iprop(∃ g, pts (F := F) c (prow c p) 128 fullShare g)
      iintro H; iexists f; iexact H
  have h2 : (bigSep Finset.univ fun i : Fin 12 => pts (F := F) c (lrow c i) (tlen i) fullShare f) ⊢ bigSep Finset.univ (landRaw (F := F) c) :=
    bigSep_mono fun i _ => by
      show (pts (F := F) c (lrow c i) (tlen i) fullShare f) ⊢ iprop(∃ g, pts (F := F) c (lrow c i) (tlen i) fullShare g)
      iintro H; iexists f; iexact H
  iintro ⟨H1, H2⟩
  isplitl [H1]
  · iapply h1; iexact H1
  · iapply h2; iexact H2

/-- What a device begins with, beside its two staged buffers: what it owes, the tokens of its payments, its positions and
    the credits of what it is going to wait for. -/
def outset : sProp 𝕄 :=
  iprop(bigSep Finset.univ (barTok (F := F) c) ∗ bigSep Finset.univ (barW (F := F) c) ∗ bigSep Finset.univ (xTok (F := F) c)
    ∗ bigSep Finset.univ (sndPos (F := F) c) ∗ bigSep Finset.univ (rcvW (F := F) c))

/-- The state at the start of the run. -/
theorem begin_run (f : (cc0_stg1_0 : Ref sig .tc).ty.Contents (Elt F)) :
    iprop(records m ρ K ∗ owesP (F := F) c 0 ∗ xPts m ρ c ∗ (oloc c ↦{fullShare} f) ∗ outset (F := F) c) ⊢ St m ρ K c 0 0 0 0 0 0 := by
  unfold St
  rw [fam_all (barTok (F := F) c) (p := fun d => 0 ≤ d.val) (fun _ => Nat.zero_le _),
    fam_all (landRaw (F := F) c) (p := fun i => 0 ≤ (tax i).val) (fun _ => Nat.zero_le _),
    fam_all (barW (F := F) c) (p := fun _ => 0 < 4) (fun _ => by decide),
    fam_none (fun _ : Fin 1 => (semVal (barCell c) 0 : sProp 𝕄)) (p := fun _ => 0 = 4) (fun _ => by decide),
    fam_none (fun i => landRaw (F := F) (peer i c) i) (p := fun i => 0 = 4 ∧ 0 ≤ i.val) (fun i => by omega),
    fam_all (ownRaw (F := F) c) (p := fun p => 0 ≤ p.val) (fun _ => Nat.zero_le _),
    fam_none (ownP m ρ c) (p := fun p => 8 ≤ p.val ∧ p.val < 0) (fun i => by omega),
    fam_none (srcP m ρ c) (p := srcs 0 0 0 0) (fun i => by dsimp only [srcs]; omega),
    fam_none (landP m ρ c) (p := fun i => i.val < 0 ∧ 2 * 0 ≤ i.val) (fun i => by omega),
    fam_all (xTok (F := F) c) (p := fun i => 0 ≤ i.val) (fun _ => Nat.zero_le _),
    fam_all (sndPos (F := F) c) (p := fun i => 0 ≤ i.val) (fun _ => Nat.zero_le _),
    fam_none (sndCred (F := F) c) (p := fun i => 0 ≤ i.val ∧ i.val < 0) (fun i => by omega),
    fam_none (fun i => (semVal (sndCell c i) 0 : sProp 𝕄)) (p := fun i => i.val < 0) (fun i => by omega),
    fam_all (rcvW (F := F) c) (p := fun i => 0 ≤ i.val) (fun _ => Nat.zero_le _),
    fam_none (fun i => (semVal (rcvCell c i) 0 : sProp 𝕄)) (p := fun i => i.val < 0) (fun i => by omega)]
  simp only [emp_left, emp_right]
  unfold outset
  iintro ⟨HR, HO, Hx, Ho, Hb, Hw, Ht, Hs, Hr⟩
  ihave Hp := (out_raw (F := F) c f) $$ Ho
  icases Hp with ⟨Hown, Hland⟩
  iframe HR Hx Hb Hland Hw Hown Ht Hs Hr
  iexact HO

/-- The first eight pieces of its own rows, as the sources they were: as many of them as one likes. -/
theorem own_srcs : ∀ n : ℕ, n ≤ 8 → fam (srcP m ρ c) (fun i => i.val < n) = fam (ownP m ρ c) fun p => p.val < n
  | 0, _ => (fam_none _ fun i => by omega).trans (fam_none _ fun i => by omega).symm
  | n + 1, h => by
    obtain ⟨i, hi⟩ : ∃ i : Fin 12, i.val = n := ⟨⟨n, by omega⟩, rfl⟩
    obtain ⟨p, hp⟩ : ∃ p : Fin 16, p.val = n := ⟨⟨n, by omega⟩, rfl⟩
    rw [fam_step (srcP m ρ c) (p := fun i => i.val < n + 1) (p' := fun i => i.val < n) i (by omega) (by omega) fun j hj => by
        have : j.val ≠ i.val := fun h => hj (Fin.ext h)
        omega,
      fam_step (ownP m ρ c) (p := fun i => i.val < n + 1) (p' := fun i => i.val < n) p (by omega) (by omega) fun j hj => by
        have : j.val ≠ p.val := fun h => hj (Fin.ext h)
        omega,
      own_srcs n (by omega), own_src m ρ c p i (by omega) (by omega)]

/-- The state at the end of the run: all is paid, the argument is as staged, the result is complete, and every semaphore of
    the kernel counts zero. -/
theorem finish_run :
    St m ρ K c 4 16 12 12 12 2 ⊢ iprop(owesP (F := F) c 15 ∗ xPts m ρ c ∗ (oloc c ↦{fullShare} outAt m ρ c) ∗ semVal (barCell c) 0
      ∗ (bigSep Finset.univ fun i => (semVal (sndCell c i) 0 : sProp 𝕄)) ∗ bigSep Finset.univ fun i => (semVal (rcvCell c i) 0 : sProp 𝕄)) := by
  rw [← step_join m ρ K c (j := 1) (by decide) (by decide) (.inr (by decide)), ← step_join m ρ K c (j := 0) (by decide) (by decide) (.inr (by decide))]
  have e1 : fam (srcP m ρ c) (srcs 16 12 12 0) = fam (ownP m ρ c) fun p => p.val < 8 :=
    (fam_congr _ fun i => by dsimp only [srcs]; omega).trans (own_srcs m ρ c 8 (Nat.le_refl _))
  have e2 : bigSep Finset.univ (ownP m ρ c) = iprop(fam (ownP m ρ c) (fun p => 8 ≤ p.val ∧ p.val < 16) ∗ fam (ownP m ρ c) fun p => p.val < 8) :=
    (fam_all (ownP m ρ c) (p := fun _ => True) fun _ => trivial).symm.trans (fam_part (p' := fun p : Fin 16 => 8 ≤ p.val ∧ p.val < 16) (p'' := fun p : Fin 16 => p.val < 8) _
      (fun p => by have := p.isLt; exact ⟨fun _ => by omega, fun _ => trivial⟩) fun p => by omega)
  have e3 : (oloc c ↦{fullShare} outAt m ρ c : sProp 𝕄) = iprop(bigSep Finset.univ (ownP m ρ c) ∗ bigSep Finset.univ (landP m ρ c)) :=
    out_pieces (F := F) c (outAt m ρ c)
  have e4 : fam (fun _ : Fin 1 => (semVal (barCell c) 0 : sProp 𝕄)) (fun _ => 4 = 4) = semVal (barCell c) 0 := by
    rw [fam_all _ (fun _ => rfl)]; exact bigSep_univ_eq_bigSepL [0] (by decide) (by decide) _
  unfold St
  rw [e1, e4, fam_all (landP m ρ c) (p := fun i => i.val < 12 ∧ 2 * 0 ≤ i.val) (fun i => by have := i.isLt; omega),
    fam_all (fun i => (semVal (sndCell c i) 0 : sProp 𝕄)) (p := fun i => i.val < 12) (fun i => i.isLt),
    fam_all (fun i => (semVal (rcvCell c i) 0 : sProp 𝕄)) (p := fun i => i.val < 12) (fun i => i.isLt), e3, e2]
  iintro ⟨-, HO, Hx, -, -, -, Hb, -, -, Hown, Hsrc, Hland, -, -, -, Hs, -, Hr⟩
  iframe Hx Hb Hown Hsrc Hland Hs Hr
  iexact HO

end Cert.Gather

end
-- ==== Proof.Launch.lean ====
/-
# The launch

The run of one device put under the launch of all eight: what the launch deals out, how the tokens travel to the devices
that pay with them, what each device is credited with, and the theorem about the whole run.
-/
module

public import proofs.«01_k».proof.Proof.Body
public import proofs.«01_k».proof.Proof.Ends
public import proofs.«01_k».proof.Proof.Gen.KernelIdeal.Points
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the staging takes -/

/-- What a device starts its body with, the staged buffers apart: the protocol's records and its outset. -/
def start (c : Dev nD) : sProp 𝕄 := iprop(∃ K, records m ρ K ∗ outset (F := F) c)
/-- What it ends its body with: every semaphore of the kernel at zero. -/
def stop (c : Dev nD) : sProp 𝕄 :=
  iprop(semVal (barCell c) 0 ∗ (bigSep Finset.univ fun i => (semVal (sndCell c i) 0 : sProp 𝕄)) ∗ bigSep Finset.univ fun i => (semVal (rcvCell c i) 0 : sProp 𝕄))

/-- The one grid point of device `c`: the argument's block is staged and stays, the result is what was gathered. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => stop c
  q _ := fullShare
  owed t := match t with
    | ⟨0, _⟩ => owed c 0
    | ⟨_ + 1, _⟩ => 0

omit [FloatOps F] in
/-- Holding a whole buffer through its memref is holding the buffer. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staged buffer of device `c` holding `X`. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body is called with, -/
def before (c : Dev nD) : sProp 𝕄 :=
  iprop(start m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
/-- and what it returns. -/
def after (c : Dev nD) : sProp 𝕄 :=
  iprop(stop (F := F) c ∗ (dats m ρ 0 c).owesAt () t0_0.succ ∗ held c cc0_stg0_0 (xstg m ρ c) ∗ held c cc0_stg1_0 (outAt m ρ c))

/-- The end of the run is what the body returns. -/
theorem after_intro (K : Dev nD × Kind → ℕ) (c : Dev nD) : St m ρ K c 4 16 12 12 12 2 ⊢ after m ρ c := by
  refine (finish_run m ρ K c).trans ?_
  unfold after stop owesP Dat.owesAt Pipeline.owesWithin xPts
  rw [show (dats m ρ 0 c).owed t0_0.succ = 0 from rfl, owed_all]
  iintro ⟨⟨%W, HO⟩, Hx, Ho, Hb, Hs, Hr⟩
  iframe Hb Hs Hr
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The body, from what it is called with to what it returns. -/
theorem body_sound (c : Dev nD) : before m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      cc0_scratch0 cc0_scratch1 cc0_scratch2 cc0_scratch3 cc0_scratch4 cc0_scratch5) (fun _ => after m ρ c) := by
  have run : ∀ K f, iprop(records m ρ K ∗ owesP (F := F) c 0 ∗ xPts m ρ c ∗ (oloc c ↦{fullShare} f) ∗ outset (F := F) c)
      ⊢ wp frame (wpE (defs₀ (F := F)) 𝒱₀ (c : Thread nD τ) none) Set.univ
        (cc0_body (Memref.whole cc0_stg0_0) (Memref.isWhole_whole _) (Memref.whole cc0_stg1_0) (Memref.isWhole_whole _)
          cc0_scratch0 cc0_scratch1 cc0_scratch2 cc0_scratch3 cc0_scratch4 cc0_scratch5) (fun _ => after m ρ c) := fun K f =>
    (begin_run m ρ K c f).trans ((body_run m ρ K c (Memref.isWhole_whole _) (Memref.isWhole_whole _)).trans
      (wp_mono _ _ _ fun _ => after_intro m ρ K c))
  unfold before start Dat.owesAt Pipeline.owesWithin
  rw [show (dats m ρ 0 c).owed t0_0.castSucc = owed c 0 from rfl]
  iintro ⟨⟨%K, HR, HS⟩, ⟨%W, %hW, HO⟩, ⟨%d0, %g0, %hg0, Hx⟩, ⟨%d1, %g1, %hg1, Hout⟩⟩
  have hx : g0 = xstg m ρ c := by rw [hg0]; unfold Dat.before; rw [if_pos (fetch0_0 t0_0)]; rfl
  subst hx
  iapply (run K g1)
  unfold owesP xPts
  iframe HR HS Hx Hout
  iexists W; iexact HO

set_option maxRecDepth 4000 in
/-- The same, as the launch asks for it. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole]
  exact body_sound m ρ c

/-! ## What the launch deals out -/

/-- The kernel's own semaphores: send and receive of each transfer. -/
abbrev osem (k : Fin 12 ⊕ Fin 12) : SemLoc sig := ksem (some k)
/-- They are distinct, and none of them is a semaphore of the staging. -/
theorem osem_facts : Pipeline.OwnSemFacts cfg0.spec osem := by decide +kernel

/-- The launch holds each window's array whole. -/
theorem share_full (c : Dev nD) (w : Fin cfg0.W) : (dats m ρ 0 c).share w = fullShare := by unfold Dat.share; split <;> rfl

/-- All cells. -/
def allCells : Finset (GSem nD τ sig) := Finset.univ.map ⟨kcell, kcell_injective⟩

/-- The duties of one device's cells: three of its barrier, one of each transfer cell. -/
abbrev Duty : Type := Fin 3 ⊕ (Fin 12 ⊕ Fin 12)
/-- Which cell a duty is of, -/
def dkind : Duty → Kind
  | .inl _ => none
  | .inr k => some k
/-- and which of that cell's duties it is. -/
def dnum : Duty → Fin 3
  | .inl d => d
  | .inr _ => 0
/-- A duty's token. -/
abbrev tokOf (cj : Dev nD × Duty) : GSem nD τ sig × ℕ × Fin 3 := (kcell (cj.1, dkind cj.2), 0, dnum cj.2)
theorem tokOf_injective : Function.Injective tokOf := by
  rintro ⟨c, j⟩ ⟨c', j'⟩ h
  have h1 : (c, dkind j) = (c', dkind j') := kcell_injective (congrArg Prod.fst h)
  have h2 : dnum j = dnum j' := congrArg (fun x : GSem nD τ sig × ℕ × Fin 3 => x.2.2) h
  have h3 : dkind j = dkind j' := congrArg Prod.snd h1
  refine Prod.ext (Prod.mk.inj h1).1 ?_
  rcases j with d | k <;> rcases j' with d' | k'
  · exact congrArg Sum.inl h2
  · exact absurd h3 (by simp [dkind])
  · exact absurd h3 (by simp [dkind])
  · exact congrArg Sum.inr (Option.some.inj h3)
/-- All tokens. -/
def allToks : Finset (GSem nD τ sig × ℕ × Fin 3) := Finset.univ.map ⟨tokOf, tokOf_injective⟩

/-- The element the run starts from: the launch's own part and the protocol's. -/
def u₀ : UU := (initOf (Pipeline.cells cfgs cellOf_inj) (Pipeline.launchToks cfgs cellOf_inj), initOf allCells allToks)

/-- The tokens of device `c`'s own cells. -/
def ownToks (c : Dev nD) : sProp 𝕄 :=
  iprop((bigSep Finset.univ fun d : Fin 3 => (dutyTok ER (barCell c) 0 d : sProp 𝕄))
    ∗ (bigSep Finset.univ fun i : Fin 12 => (dutyTok ER (sndCell c i) 0 0 : sProp 𝕄))
    ∗ bigSep Finset.univ fun i : Fin 12 => (dutyTok ER (rcvCell c i) 0 0 : sProp 𝕄))
/-- Where device `c`'s own cells stand. -/
def places (c : Dev nD) : sProp 𝕄 := bigSep Finset.univ fun k : Kind => (atPos ER (kcell (c, k)) 0 ∅ 0 : sProp 𝕄)
/-- That they have reached their round. -/
def arrived (c : Dev nD) : sProp 𝕄 := bigSep Finset.univ fun k : Kind => (reached ER (kcell (c, k)) 0 : sProp 𝕄)
/-- What device `c` is dealt of the protocol. -/
def dealt (c : Dev nD) : sProp 𝕄 :=
  iprop((bigSep Finset.univ fun k : Kind => (roundState ER (Rd m ρ) (kcell (c, k)) 0 : sProp 𝕄)) ∗ places (F := F) c ∗ arrived (F := F) c ∗ ownToks (F := F) c)

omit [FloatOps F] in
/-- Over the kinds of cell: the barrier, the send cells, the receive cells. -/
theorem kinds (Φ : Kind → sProp 𝕄) : bigSep Finset.univ Φ
    = iprop(Φ none ∗ (bigSep Finset.univ fun i => Φ (some (.inl i))) ∗ bigSep Finset.univ fun i => Φ (some (.inr i))) := by
  rw [bigSep_univ_equiv (Equiv.optionEquivSumPUnit.{0, 0} (Fin 12 ⊕ Fin 12)).symm Φ, bigSep_univ_sum, bigSep_univ_sum,
    Fintype.univ_punit, bigSep_singleton]
  exact BI.Entails.antisymm BI.sep_comm BI.sep_comm

omit [FloatOps F] in
/-- The protocol's starting element is every device's deal. -/
theorem deal : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : Kind => Φ (kcell (c, k)) := by
    unfold allCells; rw [bigSep_map, bigSep_univ_prod]; rfl
  have hT : bigSep allToks (fun x => (dutyTok ER x.1 x.2.1 x.2.2 : sProp 𝕄)) = bigSep Finset.univ (ownToks (F := F)) := by
    unfold allToks; rw [bigSep_map, bigSep_univ_prod]
    exact bigSep_congr fun c _ => by unfold ownToks; rw [bigSep_univ_sum, bigSep_univ_sum]; rfl
  have hG : bigSep Finset.univ (dealt m ρ) = iprop((bigSep Finset.univ fun c : Dev nD => bigSep Finset.univ fun k : Kind => (roundState ER (Rd m ρ) (kcell (c, k)) 0 : sProp 𝕄))
      ∗ bigSep Finset.univ (places (F := F)) ∗ bigSep Finset.univ (arrived (F := F)) ∗ bigSep Finset.univ (ownToks (F := F))) := by
    unfold dealt; rw [bigSep_sep', bigSep_sep', bigSep_sep']
  rw [hG]
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  isplitl [Hst']; · iexact Hst'
  isplitl [Hat']; · iexact Hat'
  isplitl [Hr']; · iexact Hr'
  iexact Htok'

omit [FloatOps F] in
/-- The kernel's own semaphores at zero, device by device, -/
theorem own_sems (c : Dev nD) : (Pipeline.ownSems0 (Ix := Unit) (Name := ℕ) (U := UU) (Lvl := ℕ) (Val := Elt F) (τ := τ) osem c : sProp 𝕄)
    = iprop((bigSep Finset.univ fun i => (semVal (sndCell c i) 0 : sProp 𝕄)) ∗ bigSep Finset.univ fun i => (semVal (rcvCell c i) 0 : sProp 𝕄)) := by
  unfold Pipeline.ownSems0; rw [bigSep_univ_sum]; rfl
omit [FloatOps F] in
/-- and the barrier's, the only one that is not the kernel's own. -/
theorem bar_sem (c : Dev nD) : (unscopedSems0 c : sProp 𝕄) = semVal (barCell c) 0 := by
  unfold unscopedSems0; rw [bigSep_eq_bigSepL_of_eq [SemLoc.reg barS] (by decide +kernel) (by decide)]; rfl

/-- A device's cells are put under their invariants. -/
def opened (c : Dev nD) : sProp 𝕄 :=
  iprop((bigSep Finset.univ fun k : Kind => iprop(∃ κ : ℕ, cellInv ER (Rd m ρ) κ (kcell (c, k)))) ∗ places (F := F) c ∗ arrived (F := F) c ∗ ownToks (F := F) c)

omit [FloatOps F] in
/-- The cells of one device, with the launch's credit dealt to it, are opened together. -/
theorem open_cells (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> opened m ρ c := by
  have hv : (bigSep Finset.univ fun k : Kind => (semVal (kcell (c, k)) 0 : sProp 𝕄)) = iprop(semVal (barCell c) 0
      ∗ (bigSep Finset.univ fun i => (semVal (sndCell c i) 0 : sProp 𝕄)) ∗ bigSep Finset.univ fun i => (semVal (rcvCell c i) 0 : sProp 𝕄)) := kinds _
  have hi : iprop((bigSep Finset.univ fun k : Kind => (semVal (kcell (c, k)) 0 : sProp 𝕄)) ∗ bigSep Finset.univ fun k : Kind => (roundState ER (Rd m ρ) (kcell (c, k)) 0 : sProp 𝕄))
      ⊢ (|={Set.univ}=> bigSep Finset.univ fun k : Kind => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  rw [hv] at hi
  rw [own_sems, bar_sem]
  unfold dealt opened
  iintro ⟨⟨Hs, Hr⟩, Hb, Hst, Hat, Hrd, Htok⟩
  imod hi $$ [Hs Hr Hb Hst] with Hinv
  · iframe Hs Hr Hb Hst
  imodintro
  iframe Hinv Hat Hrd Htok

/-! ## Tokens to those who pay with them -/

/-- A barrier duty goes to the neighbour across its axis, -/
def toNb : Dev nD × Fin 3 ≃ Dev nD × Fin 3 where
  toFun x := (nb x.2 x.1, x.2)
  invFun x := (nb x.2 x.1, x.2)
  left_inv x := Prod.ext (nb_nb x.2 x.1) rfl
  right_inv x := Prod.ext (nb_nb x.2 x.1) rfl
/-- the duty of a transfer's arrival to the device it comes from. -/
def toPeer : Dev nD × Fin 12 ≃ Dev nD × Fin 12 where
  toFun x := (peer x.2 x.1, x.2)
  invFun x := (peer x.2 x.1, x.2)
  left_inv x := Prod.ext (nb_nb (tax x.2) x.1) rfl
  right_inv x := Prod.ext (nb_nb (tax x.2) x.1) rfl

/-- The tokens device `c` pays with. -/
def payToks (c : Dev nD) : sProp 𝕄 := iprop(bigSep Finset.univ (barTok (F := F) c) ∗ bigSep Finset.univ (xTok (F := F) c))

omit [FloatOps F] in
/-- Every device's own tokens, dealt around, are what every device pays with. -/
theorem toks_dealt : bigSep Finset.univ (ownToks (F := F)) = bigSep Finset.univ (payToks (F := F)) := by
  have hB : (bigSep Finset.univ fun c : Dev nD => bigSep Finset.univ fun d : Fin 3 => (dutyTok ER (barCell c) 0 d : sProp 𝕄))
      = bigSep Finset.univ fun c : Dev nD => bigSep Finset.univ (barTok (F := F) c) := by
    rw [← bigSep_univ_prod (fun x : Dev nD × Fin 3 => (dutyTok ER (barCell x.1) 0 x.2 : sProp 𝕄)), bigSep_univ_equiv toNb,
      ← bigSep_univ_prod (fun x : Dev nD × Fin 3 => barTok (F := F) x.1 x.2)]
    rfl
  have hR : (bigSep Finset.univ fun c : Dev nD => bigSep Finset.univ fun i : Fin 12 => (dutyTok ER (rcvCell c i) 0 0 : sProp 𝕄))
      = bigSep Finset.univ fun c : Dev nD => bigSep Finset.univ fun i : Fin 12 => (dutyTok ER (rcvCell (peer i c) i) 0 0 : sProp 𝕄) := by
    rw [← bigSep_univ_prod (fun x : Dev nD × Fin 12 => (dutyTok ER (rcvCell x.1 x.2) 0 0 : sProp 𝕄)), bigSep_univ_equiv toPeer,
      ← bigSep_univ_prod (fun x : Dev nD × Fin 12 => (dutyTok ER (rcvCell (peer x.2 x.1) x.2) 0 0 : sProp 𝕄))]
    rfl
  unfold ownToks payToks
  rw [bigSep_sep', bigSep_sep', hB, hR, bigSep_sep', ← bigSep_sep']
  refine congrArg _ (bigSep_congr fun c _ => ?_)
  rw [← bigSep_sep']

/-- The protocol's part of a device's outset. -/
def share (c : Dev nD) : sProp 𝕄 := iprop(payToks (F := F) c ∗ places (F := F) c)
/-- The records, all but the levels. -/
def notes (K : Dev nD × Kind → ℕ) : sProp 𝕄 :=
  iprop((bigSep Finset.univ fun ck : Dev nD × Kind => cellInv ER (Rd m ρ) (K ck) (kcell ck)) ∗ bigSep Finset.univ fun ck : Dev nD × Kind => reached ER (kcell ck) 0)
instance notes_persistent (K : Dev nD × Kind → ℕ) : BI.Persistent (notes m ρ K) := by unfold notes; infer_instance
/-- What a device has once everything is set up. -/
def ready (c : Dev nD) : sProp 𝕄 := iprop(∃ K, notes m ρ K ∗ share (F := F) c)

omit [FloatOps F] in
/-- From every device's opened cells to every device ready. -/
theorem regroup : bigSep Finset.univ (opened m ρ) ⊢ bigSep Finset.univ (ready m ρ) := by
  have e1 : bigSep Finset.univ (opened m ρ) = iprop((bigSep Finset.univ fun ck : Dev nD × Kind => iprop(∃ κ : ℕ, cellInv ER (Rd m ρ) κ (kcell ck)))
      ∗ bigSep Finset.univ (places (F := F)) ∗ (bigSep Finset.univ fun ck : Dev nD × Kind => (reached ER (kcell ck) 0 : sProp 𝕄)) ∗ bigSep Finset.univ (payToks (F := F))) := by
    unfold opened
    rw [bigSep_sep', bigSep_sep', bigSep_sep', toks_dealt, bigSep_univ_prod, bigSep_univ_prod]; rfl
  have e2 : bigSep Finset.univ (share (F := F)) = iprop(bigSep Finset.univ (payToks (F := F)) ∗ bigSep Finset.univ (places (F := F))) := by
    unfold share; rw [bigSep_sep']
  have all (K : Dev nD × Kind → ℕ) : iprop(notes m ρ K ∗ bigSep Finset.univ (share (F := F))) ⊢ bigSep Finset.univ (ready m ρ) :=
    (sep_mono_left (BI.bigSep_of_persistent Finset.univ (notes m ρ K))).trans (by
      rw [← bigSep_sep']
      refine bigSep_mono fun c _ => ?_
      show iprop(notes m ρ K ∗ share (F := F) c) ⊢ iprop(∃ K, notes m ρ K ∗ share (F := F) c)
      iintro H; iexists K; iexact H)
  rw [e1]
  iintro ⟨HI, Hat, HR, Htok⟩
  ihave HK := (BI.bigSep_exists_pi Finset.univ (fun (ck : Dev nD × Kind) (κ : ℕ) => (cellInv ER (Rd m ρ) κ (kcell ck) : sProp 𝕄))) $$ HI
  icases HK with ⟨%K, HI⟩
  iapply (all K)
  rw [e2]
  unfold notes
  iframe HI HR Htok Hat

omit [FloatOps F] in
/-- The set-up of all devices at once. -/
theorem set_up : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => open_cells m ρ c).trans (bigSep_fupd _ _)).trans (BI.fupd_mono (regroup m ρ))

/-! ## The credits -/

omit [FloatOps F] in
/-- What the others owe a device at the launch it is credited with: three units at its barrier, each transfer's count. -/
theorem credits (c : Dev nD) : (Pipeline.launchCred (fun c => owed c 0) c : sProp 𝕄)
    ⊢ iprop(cred (tallyAt (barCell c) () 3) ∗ bigSep Finset.univ fun i => (cred (tallyAt (rcvCell c i) () (cr i)) : sProp 𝕄)) := by
  have h0 : (fun c => owed c 0) = fun c : Dev nD => ∑ k ∈ (Finset.univ : Finset (Fin 15)), due c k := funext fun c =>
    Finset.sum_congr rfl fun k _ => if_pos (Nat.zero_le _)
  have hd (d : Fin 3) : (Pipeline.launchCred (fun c => due c (finSumFinEquiv (m := 3) (n := 12) (.inl d))) c : sProp 𝕄) ⊢ cred (tallyAt (barCell c) () 1) := by
    rw [show (fun c : Dev nD => due c (finSumFinEquiv (m := 3) (n := 12) (.inl d))) = fun c => tallyAt (barCell (nb d c)) () 1 from funext fun c => due_sig c d]
    exact Pipeline.launchCred_tallyAt _ (nb d) (nb d) (nb_nb d) (nb_nb d) () 1 c
  have hi (i : Fin 12) : (Pipeline.launchCred (fun c => due c (finSumFinEquiv (m := 3) (n := 12) (.inr i))) c : sProp 𝕄) ⊢ cred (tallyAt (rcvCell c i) () (cr i)) := by
    rw [show (fun c : Dev nD => due c (finSumFinEquiv (m := 3) (n := 12) (.inr i))) = fun c => tallyAt (rcvCell (peer i c) i) () (cr i) from funext fun c => due_arr c i]
    exact Pipeline.launchCred_tallyAt _ (peer i) (peer i) (nb_nb (tax i)) (nb_nb (tax i)) () (cr i) c
  have ha (S T : CellTallies nD τ sig Unit) : iprop(cred S ∗ cred T) = (cred (S + T) : sProp 𝕄) := BI.Entails.antisymm (cred_add S T).2 (cred_add S T).1
  have h3 : (bigSep Finset.univ fun _ : Fin 3 => (cred (tallyAt (barCell c) () 1) : sProp 𝕄)) = cred (tallyAt (barCell c) () 3) := by
    rw [bigSep_univ_eq_bigSepL [0, 1, 2] (by decide) (by decide), bigSepL_cons_cons, bigSepL_cons_cons, bigSepL_singleton]
    exact (congrArg (fun R : sProp 𝕄 => iprop(cred (tallyAt (barCell c) () 1) ∗ R)) ((ha _ _).trans (congrArg cred (tallyAt_add _ () 1 1)))).trans
      ((ha _ _).trans (congrArg cred (tallyAt_add _ () 1 2)))
  rw [h0, Pipeline.launchCred_sum, bigSep_univ_equiv (finSumFinEquiv (m := 3) (n := 12)), bigSep_univ_sum, ← h3]
  exact BI.sep_mono (bigSep_mono fun d _ => hd d) (bigSep_mono fun i _ => hi i)

/-! ## The run -/

omit [FloatOps F] in
/-- A device is ready to start. -/
theorem start_intro (c : Dev nD) :
    iprop(Pipeline.unscopedRestP Pipeline.Prefetch.none cfg0.spec c (fun b => m ((c : Thread nD τ).loc b)) ∗ levAts L lv
        ∗ Pipeline.launchCred (fun c => owed c 0) c ∗ prngReg c (ρ c) ∗ ready m ρ c)
      ⊢ |={Set.univ}=> iprop(start m ρ c ∗ emp) := by
  have hp : places (F := F) c = iprop(atPos ER (barCell c) 0 ∅ 0 ∗ bigSep Finset.univ (sndPos (F := F) c)
      ∗ bigSep Finset.univ fun i => (atPos ER (rcvCell c i) 0 ∅ 0 : sProp 𝕄)) := kinds _
  have hb : bigSep Finset.univ (barW (F := F) c) = iprop(atPos ER (barCell c) 0 ∅ 0 ∗ cred (tallyAt (barCell c) () 3)) :=
    bigSep_univ_eq_bigSepL [0] (by decide) (by decide) _
  have hr : bigSep Finset.univ (rcvW (F := F) c) = iprop((bigSep Finset.univ fun i => (atPos ER (rcvCell c i) 0 ∅ 0 : sProp 𝕄))
      ∗ bigSep Finset.univ fun i => (cred (tallyAt (rcvCell c i) () (cr i)) : sProp 𝕄)) := bigSep_sep' _ _ _
  unfold ready share start outset records notes payToks
  rw [hp, hb, hr]
  iintro ⟨-, Hlev, Hcr, -, ⟨%K, ⟨HI, HR⟩, ⟨HtB, HtX⟩, HaB, HaS, HaR⟩⟩
  ihave Hc := (credits (F := F) c) $$ Hcr
  icases Hc with ⟨HcB, HcR⟩
  imodintro
  isplitl
  · iexists K
    iframe HI HR Hlev HtB HtX HaB HaS HaR HcB HcR
  · iempintro

/-- The body's start, -/
theorem begins (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs
/-- and its end. -/
theorem ends (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = stop c from rfl, scopedRest0_eq, own_sems, bar_sem]
  unfold stop
  iintro ⟨Hb, Hs, Hr⟩
  iframe Hb Hs Hr
  iempintro

/-- The staging's own waits are in order: its semaphores are of the lowest level. -/
theorem staging_waits (c : Dev nD) : (levAts L lv : sProp 𝕄) ⊢ Pipeline.cellsWaits cfgs (dats m ρ) () 0 c :=
  Pipeline.cellsWaits_intro cfgs (dats m ρ) () 0 c fun w s t => by
    have hl : ∀ k : Fin 15, rlev (role (.dma ((cfg0.win w).sem s))) < rlev (some (dueKind k)) := by
      fin_cases w <;> fin_cases s <;> decide
    rcases t with ⟨_ | _, ht⟩
    · exact mayWait c _ 0 fun k _ => hl k
    · show _ ⊢ MayWait (c : Thread nD τ) _ () 0
      rw [← owed_all c]
      exact mayWait c _ 15 fun k _ => hl k

/-- What device `c`'s arrays hold when all is done. -/
def finalA (c : Dev nD) (w : Fin cfg0.W) : Buf (Elt F) ((cfg0.win w).arr.view.loc (c : Thread nD τ)) := (dats m ρ 0 c).arrAt w cfg0.N

set_option maxRecDepth 8000 in
/-- Every execution of the eight devices ends, each device's arrays then hold their final contents, and every semaphore
    counts zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun c => owed c 0) (howed₀ := fun _ => rfl) (howedN := fun _ => rfl)
    (L := L) (lv := lv) (hL := L_of_ne) (hwaits := staging_waits m ρ)
    (G := dealt m ρ) (G' := ready m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := start_intro m ρ) (hin := begins m ρ) (hout := ends m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array is what it was. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.Gather

end
-- ==== Proof.Value.lean ====
/-
# The value of the result

What the devices end with, told by the whole array their blocks are cut from: that array itself.
-/
module

public import proofs.«01_k».proof.Proof.Launch
public import Idealize.ShloMosaic.Lib.Pipeline.Value
public import Idealize.ShloMosaic.Lib.Layout

@[expose] public section

noncomputable section

namespace Cert.Gather

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg) (c : Dev nD)

/-- What is staged of the argument is the argument. -/
theorem xstg_eq : xstg m ρ c = m ((c : Thread nD τ).loc main_arg0) := by
  funext y
  show m ((c : Thread nD τ).loc main_arg0) ((win0_0.rect (0 : Fin 1)).emb y) = _
  refine congrArg _ (funext fun a => Fin.ext ?_)
  exact Pipeline.Window.rect_emb_val_of_index_zero win0_0 (0 : Fin 1) a rfl y

/-- The result's array holds what the body left in the staged result. -/
theorem finalA_out : finalA m ρ c (1 : Fin 2) = outAt m ρ c := by
  have hemb : ∀ (t : Fin cfg0.N) (y : S4096x512.Idx), (win0_1.rect t).emb y = y := fun t y =>
    funext fun a => Fin.ext (Pipeline.Window.rect_emb_val_of_index_zero win0_1 t a rfl y)
  refine (dats m ρ 0 c).arrAt_eq_of_cover 1 (outAt m ρ c) (fun t _ => ?_) fun i => ⟨t0_0, flush0_1 _, ?_⟩
  · obtain rfl := fin_N0 t
    have ha : (dats m ρ 0 c).after 1 t0_0 = outAt m ρ c := rfl
    unfold Pipeline.Dat.flushed
    rw [ha]
    generalize outAt m ρ c = f
    funext y
    show f (win0_1.xinj (grid0.coords t0_0) y) = f ((win0_1.rect t0_0).emb y)
    refine congrArg f (funext fun a => Fin.ext ?_)
    rw [Pipeline.Window.rect_emb_val_of_index_zero win0_1 t0_0 a rfl y]
  · show i ∈ ((View.whole main_v1).slice (win0_1.rect t0_0)).set
    rw [View.set_slice_whole]
    refine (win0_1.rect t0_0).mem_set.mpr fun a => ⟨(i a).val, (i a).isLt, ?_⟩
    exact (congrArg Fin.val (congrFun (hemb t0_0 i) a)).symm

/-- If every device's argument is its half of one array, cut along the mesh's second axis, every device's result is that
    array. -/
theorem outAt_whole (X : (⟨2, ![4096, 512]⟩ : Shape).Idx → Elt F .bf16)
    (h : ∀ c : Dev nD, m ((c : Thread nD τ).loc main_arg0)
      = Layout.blockN ⟨2, ![2048, 512]⟩ ⟨2, ![4096, 512]⟩ (Layout.meshBlock [2, 2, 2] ![[1], []] c) X) :
    outAt m ρ c = X := by
  funext i
  have hi : (i 0).val < 4096 := (i 0).isLt
  have ho := origin_half c ⟨(i 0).val / 512, by omega⟩
  unfold outAt
  rw [xstg_eq, h, Layout.blockN_apply]
  refine congrArg X (funext fun a => Fin.ext ?_)
  rw [Layout.TilesN.idx_val]
  match a with
  | ⟨0, _⟩ =>
    show (cy (origin c ((i 0).val / 512)) * 1 + 0) * 2048 + (i 0).val % 2048 = (i 0).val
    simp only at ho
    rw [ho]; omega
  | ⟨1, _⟩ =>
    show 0 * 512 + (i 1).val = (i 1).val
    omega

end Cert.Gather

end
-- ==== Proof.Plain.lean ====
/-
  The run of the reference program: one device, one argument, and no operation at all, since gathering the two halves of an
  array the one device holds whole gives that array back. So every execution ends at once, with memory and the semaphore
  counters as they were. Stated for any float values, and used for the reference at the machine's bits and at the ideal
  numbers alike.
-/
module

public import Idealize.ShloMosaic.Lib.StableHlo.Run
public import Idealize.ShloMosaic.Lib.Quiescent
public import proofs.«01_k».proof.Reference
public import proofs.«01_k».proof.Proof.Gen.Reference

@[expose] public section

noncomputable section

namespace Cert.Gather.Plain

open Cert.Reference Cert.Reference.Gen
open Idealize.ShloMosaic Idealize.ShloMosaic.TcCoe Idealize.ShloMosaic.StableHlo Idealize.SL.Sem

variable {F : FTy → Type} [FloatOps F]

/-- The reference has no buffer that lives only inside a scope. -/
theorem no_scoped_refs : (Finset.univ.filter fun b : Ref sig .tc => b.isScoped) = ∅ := by decide

/-- Nor a semaphore that does. -/
theorem no_scoped_sems : (Finset.univ.filter fun q : SemLoc sig => q.isScoped .tc) = ∅ := by decide

/-- The reference's program is the straight line of no operations. -/
theorem main_nil (c : Dev nD) : main (F := F) c = seq [] := rfl

/-- From any memory with zero counters the reference ends, its argument as it was and every counter at zero. -/
theorem run_plain (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => h c main_arg0, sem_eq_zero_of_no_sems (by decide) r.2⟩)
    (run_seq no_scoped_refs no_scoped_sems defs main (fun _ => []) main_nil (fun _ => trivial) m ρ)

end Cert.Gather.Plain

end
-- ==== Proof.lean ====
/-
  The certificate: every claim of Defs.lean, put together from two runs that are each proved once for any float values.
  One is the kernel's (Proof/Launch.lean, with the values it ends at in Proof/Value.lean), the other the reference's
  (Proof/Plain.lean). The kernel rounds nothing and computes nothing, it only moves data, so its text at the ideal numbers
  is the text at the machine's bits, and each statement about the bits is the general one read at them.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Value
public import proofs.«01_k».proof.Proof.Plain

@[expose] public section

noncomputable section

namespace Cert.Proof

open Idealize.ShloMosaic Idealize.SL.Sem

section General

open Cert.KernelIdeal Cert.KernelIdeal.Gen

variable {F : FTy → Type} [FloatOps F]

/-- The kernel, for any float values: it ends with every device's argument as it was and every counter at zero. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun _ h => ⟨fun c => (h.1 c 0).trans (Cert.Gather.finalA_arg m ρ c), h.2⟩)
    (Cert.Gather.run_main m ρ)

/-- The kernel, for any float values: if every device starts with the half of the array `X` that its place on the mesh's
    second axis names, then every device ends with the whole of `X` in its result, its argument as it was. -/
theorem run_value (m : (ℓ : Loc nD τ sig) → Buf (Elt F) ℓ) (ρ : Dev nD → PrngReg)
    (X : (⟨2, ![4096, 512]⟩ : Shape).Idx → Elt F .bf16)
    (hX : ∀ c : Dev nD, m ((c.tc : Thread nD τ).loc main_arg0)
      = Layout.blockN ⟨2, ![2048, 512]⟩ ⟨2, ![4096, 512]⟩ (Layout.meshBlock [2, 2, 2] ![[1], []] c) X) :
    θ_run defs (onTc (τ := τ) (main (F := F))) ⟨m, fun _ => 0, ρ⟩ fun r => ∀ c : Dev nD,
      r.2.mem ((c.tc : Thread nD τ).loc main_v1) = X
        ∧ r.2.mem ((c.tc : Thread nD τ).loc main_arg0) = m ((c.tc : Thread nD τ).loc main_arg0) :=
  (θ_run defs _ _).mono
    (fun _ h c => ⟨(h.1 c 1).trans ((Cert.Gather.finalA_out m ρ c).trans (Cert.Gather.outAt_whole m ρ c X hX)),
      (h.1 c 0).trans (Cert.Gather.finalA_arg m ρ c)⟩)
    (Cert.Gather.run_main m ρ)

end General

/-- The two printed programs of the kernel have the same body at their one label, for any float values; -/
theorem bodies_eq {F : FTy → Type} [FloatOps F] : Cert.Kernel.defs₀ (F := F) = Cert.KernelIdeal.defs₀ (F := F) :=
  congrArg Defs.onTc (funext fun l => funext fun a => match l, a with
    | 0, _ => rfl
    | ⟨n + 1, h⟩, _ => absurd h (Nat.not_lt.2 (Nat.le_add_left 1 n)))

/-- so they have the same bodies once the launch's own are added. -/
theorem defs_eq {F : FTy → Type} [FloatOps F] : Cert.Kernel.defs (F := F) = Cert.KernelIdeal.defs (F := F) :=
  congrArg (Pipeline.defs Cert.KernelIdeal.pcfgs) bodies_eq

/-- The kernel at the machine's bits ends quiescent, its arguments unchanged. -/
theorem quiet_kernel : Cert.quiescent_Kernel := fun m g _ => by
  rw [defs_eq]
  exact run_frame (F := Bits) m g

/-- The kernel at the ideal numbers ends quiescent, its arguments unchanged. -/
theorem quiet_kernelIdeal : Cert.quiescent_KernelIdeal := fun m g _ => run_frame (F := Ideal) m g

/-- The reference at the machine's bits ends quiescent, its argument unchanged. -/
theorem quiet_reference : Cert.quiescent_Reference := fun m g _ => Cert.Gather.Plain.run_plain (F := Bits) m g

/-- The reference at the ideal numbers ends quiescent, its argument unchanged. -/
theorem quiet_referenceIdeal : Cert.quiescent_ReferenceIdeal := fun m g _ => Cert.Gather.Plain.run_plain (F := Ideal) m g

/-- At the ideal numbers every device of the kernel ends with the reference's result. -/
theorem same_ideal : Cert.algebraic_KernelIdeal_ReferenceIdeal := fun m g m' g' _ hX =>
  ⟨_, run_value (F := Ideal) m g _ hX,
    (θ_run _ _ _).mono (fun _ h => ⟨h.1 0, h.1 0⟩) (Cert.Gather.Plain.run_plain (F := Ideal) m' g')⟩

/-- At the machine's bits too, and bit for bit. -/
theorem same_bits : Cert.bitexact_Kernel_Reference := fun m g m' g' _ hX =>
  ⟨_, by rw [defs_eq]; exact run_value (F := Bits) m g _ hX,
    (θ_run _ _ _).mono (fun _ h => ⟨h.1 0, h.1 0⟩) (Cert.Gather.Plain.run_plain (F := Bits) m' g')⟩

/-- Every claim of the certificate. -/
theorem claim : Cert.Claim :=
  ⟨Cert.Kernel.Gen.facts, Cert.KernelIdeal.Gen.facts, Cert.Reference.Gen.facts, Cert.ReferenceIdeal.Gen.facts,
    quiet_kernel, quiet_kernelIdeal, quiet_reference, quiet_referenceIdeal, trivial, same_ideal, same_bits⟩

end Cert.Proof

end
